-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S4096x2048 : Shape := ⟨2, ![4096, 2048]⟩
abbrev S4x5x128x1024 : Shape := ⟨4, ![4, 5, 128, 1024]⟩
abbrev S4x2x128x1024 : Shape := ⟨4, ![4, 2, 128, 1024]⟩
abbrev S4x5 : Shape := ⟨2, ![4, 5]⟩
abbrev S4x2 : Shape := ⟨2, ![4, 2]⟩
abbrev S256x256 : Shape := ⟨2, ![256, 256]⟩
abbrev S256x1024 : Shape := ⟨2, ![256, 1024]⟩
abbrev S128x1024 : Shape := ⟨2, ![128, 1024]⟩
abbrev S1x1x128x1024 : Shape := ⟨4, ![1, 1, 128, 1024]⟩
abbrev S_ : Shape := ⟨0, ![]⟩
abbrev S1x1 : Shape := ⟨2, ![1, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x2048, .bf16⟩
  | .local _ .vmem, ⟨0, _⟩ => ⟨S4096x256, .bf16⟩
  | .local _ .vmem, ⟨1, _⟩ => ⟨S256x2048, .bf16⟩
  | .local _ .vmem, ⟨2, _⟩ => ⟨S256x2048, .bf16⟩
  | .local _ .vmem, ⟨3, _⟩ => ⟨S4x5x128x1024, .bf16⟩
  | .local _ .vmem, ⟨4, _⟩ => ⟨S4x2x128x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c256_i32 : BitVec 32 := 256#32
  let v98 : BitVec 32 := Scalar.muli v32 c256_i32
  let v99 : Index := Scalar.indexCast v98
  let c0_81 : Index := 0#32
  ![v99.toNat, 0]
def k0_dev1 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_102 : BitVec 32 := 1#32
  let v131 : BitVec 32 := Scalar.muli v92 c1_i32_102
  let v132 : BitVec 32 := Scalar.addi c0_i32_103 v131
  v132.toNat
def k0_dev2 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_105 : BitVec 32 := 1#32
  let v133 : BitVec 32 := Scalar.muli v62 c1_i32_105
  let v134 : BitVec 32 := Scalar.addi c0_i32_106 v133
  v134.toNat
def k0_dev3 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_116 : BitVec 32 := 1#32
  let v135 : BitVec 32 := Scalar.muli v62 c1_i32_116
  let v136 : BitVec 32 := Scalar.addi c0_i32_117 v135
  v136.toNat
def k0_dev4 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_130 : BitVec 32 := 1#32
  let v145 : BitVec 32 := Scalar.muli v92 c1_i32_130
  let v146 : BitVec 32 := Scalar.addi c0_i32_131 v145
  v146.toNat
def k0_dev5 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_144 : BitVec 32 := 1#32
  let v155 : BitVec 32 := Scalar.muli v62 c1_i32_144
  let v156 : BitVec 32 := Scalar.addi c0_i32_145 v155
  v156.toNat
def k0_dev6 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_158 : BitVec 32 := 1#32
  let v165 : BitVec 32 := Scalar.muli v92 c1_i32_158
  let v166 : BitVec 32 := Scalar.addi c0_i32_159 v165
  v166.toNat
def k0_off2 (d0 : Dev nD) (c0_i32_164 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v175 : BitVec 32 := Scalar.subi v32 c0_i32_164
  let c1_i32_165 : BitVec 32 := 1#32
  let v176 : BitVec 32 := Scalar.subi v175 c1_i32_165
  let c16_i32_166 : BitVec 32 := 16#32
  let c0_i32_167 : BitVec 32 := 0#32
  let v177 : BitVec 1 := Scalar.cmpi .eq c16_i32_166 c0_i32_167
  let c1_i32_168 : BitVec 32 := 1#32
  let v178 : BitVec 32 := Scalar.select v177 c1_i32_168 c16_i32_166
  let v179 : BitVec 32 := Scalar.remsi v176 v178
  let c0_i32_170 : BitVec 32 := 0#32
  let v181 : BitVec 1 := Scalar.cmpi .slt v179 c0_i32_170
  let c0_i32_171 : BitVec 32 := 0#32
  let v182 : BitVec 1 := Scalar.cmpi .slt v178 c0_i32_171
  let v183 : BitVec 1 := Scalar.xori v181 v182
  let c0_i32_169 : BitVec 32 := 0#32
  let v180 : BitVec 1 := Scalar.cmpi .ne v179 c0_i32_169
  let v184 : BitVec 1 := Scalar.andi v183 v180
  let v185 : BitVec 32 := Scalar.addi v179 v178
  let v186 : BitVec 32 := Scalar.select v184 v185 v179
  let c256_i32_180 : BitVec 32 := 256#32
  let v199 : BitVec 32 := Scalar.muli v186 c256_i32_180
  let v200 : Index := Scalar.indexCast v199
  let c0_181 : Index := 0#32
  ![v200.toNat, 0]
def k0_off3 (d0 : Dev nD) (c0_i32_172 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v187 : BitVec 32 := Scalar.addi v32 c0_i32_172
  let c1_i32_173 : BitVec 32 := 1#32
  let v188 : BitVec 32 := Scalar.addi v187 c1_i32_173
  let c16_i32_174 : BitVec 32 := 16#32
  let c0_i32_175 : BitVec 32 := 0#32
  let v189 : BitVec 1 := Scalar.cmpi .eq c16_i32_174 c0_i32_175
  let c1_i32_176 : BitVec 32 := 1#32
  let v190 : BitVec 32 := Scalar.select v189 c1_i32_176 c16_i32_174
  let v191 : BitVec 32 := Scalar.remsi v188 v190
  let c0_i32_178 : BitVec 32 := 0#32
  let v193 : BitVec 1 := Scalar.cmpi .slt v191 c0_i32_178
  let c0_i32_179 : BitVec 32 := 0#32
  let v194 : BitVec 1 := Scalar.cmpi .slt v190 c0_i32_179
  let v195 : BitVec 1 := Scalar.xori v193 v194
  let c0_i32_177 : BitVec 32 := 0#32
  let v192 : BitVec 1 := Scalar.cmpi .ne v191 c0_i32_177
  let v196 : BitVec 1 := Scalar.andi v195 v192
  let v197 : BitVec 32 := Scalar.addi v191 v190
  let v198 : BitVec 32 := Scalar.select v196 v197 v191
  let c256_i32_185 : BitVec 32 := 256#32
  let v205 : BitVec 32 := Scalar.muli v198 c256_i32_185
  let v206 : Index := Scalar.indexCast v205
  let c0_186 : Index := 0#32
  ![v206.toNat, 0]
def k0_dev7 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_220 : BitVec 32 := 1#32
  let v228 : BitVec 32 := Scalar.muli v62 c1_i32_220
  let v229 : BitVec 32 := Scalar.addi c0_i32_221 v228
  v229.toNat
def k0_dev8 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_256 : BitVec 32 := 1#32
  let v255 : BitVec 32 := Scalar.muli v92 c1_i32_256
  let v256 : BitVec 32 := Scalar.addi c0_i32_257 v255
  v256.toNat
def k0_dev9 (d0 : Dev nD) : Nat :=
  let c0_i32_293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_292 : BitVec 32 := 1#32
  let v282 : BitVec 32 := Scalar.muli v62 c1_i32_292
  let v283 : BitVec 32 := Scalar.addi c0_i32_293 v282
  v283.toNat
def k0_dev10 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_328 : BitVec 32 := 1#32
  let v309 : BitVec 32 := Scalar.muli v92 c1_i32_328
  let v310 : BitVec 32 := Scalar.addi c0_i32_329 v309
  v310.toNat
def k0_dev11 (d0 : Dev nD) : Nat :=
  let c0_i32_404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_403 : BitVec 32 := 1#32
  let v378 : BitVec 32 := Scalar.muli v62 c1_i32_403
  let v379 : BitVec 32 := Scalar.addi c0_i32_404 v378
  v379.toNat
def k0_dev12 (d0 : Dev nD) : Nat :=
  let c0_i32_453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_452 : BitVec 32 := 1#32
  let v411 : BitVec 32 := Scalar.muli v92 c1_i32_452
  let v412 : BitVec 32 := Scalar.addi c0_i32_453 v411
  v412.toNat
def k0_dev13 (d0 : Dev nD) : Nat :=
  let c0_i32_502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_501 : BitVec 32 := 1#32
  let v444 : BitVec 32 := Scalar.muli v62 c1_i32_501
  let v445 : BitVec 32 := Scalar.addi c0_i32_502 v444
  v445.toNat
def k0_dev14 (d0 : Dev nD) : Nat :=
  let c0_i32_551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_550 : BitVec 32 := 1#32
  let v477 : BitVec 32 := Scalar.muli v92 c1_i32_550
  let v478 : BitVec 32 := Scalar.addi c0_i32_551 v477
  v478.toNat
def k0_dev15 (d0 : Dev nD) : Nat :=
  let c0_i32_626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_625 : BitVec 32 := 1#32
  let v546 : BitVec 32 := Scalar.muli v62 c1_i32_625
  let v547 : BitVec 32 := Scalar.addi c0_i32_626 v546
  v547.toNat
def k0_dev16 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_674 : BitVec 32 := 1#32
  let v579 : BitVec 32 := Scalar.muli v92 c1_i32_674
  let v580 : BitVec 32 := Scalar.addi c0_i32_675 v579
  v580.toNat
def k0_dev17 (d0 : Dev nD) : Nat :=
  let c0_i32_724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_723 : BitVec 32 := 1#32
  let v612 : BitVec 32 := Scalar.muli v62 c1_i32_723
  let v613 : BitVec 32 := Scalar.addi c0_i32_724 v612
  v613.toNat
def k0_dev18 (d0 : Dev nD) : Nat :=
  let c0_i32_773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_772 : BitVec 32 := 1#32
  let v645 : BitVec 32 := Scalar.muli v92 c1_i32_772
  let v646 : BitVec 32 := Scalar.addi c0_i32_773 v645
  v646.toNat
def k0_dev19 (d0 : Dev nD) : Nat :=
  let c0_i32_847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_846 : BitVec 32 := 1#32
  let v714 : BitVec 32 := Scalar.muli v62 c1_i32_846
  let v715 : BitVec 32 := Scalar.addi c0_i32_847 v714
  v715.toNat
def k0_dev20 (d0 : Dev nD) : Nat :=
  let c0_i32_896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_895 : BitVec 32 := 1#32
  let v747 : BitVec 32 := Scalar.muli v92 c1_i32_895
  let v748 : BitVec 32 := Scalar.addi c0_i32_896 v747
  v748.toNat
def k0_dev21 (d0 : Dev nD) : Nat :=
  let c0_i32_945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_944 : BitVec 32 := 1#32
  let v780 : BitVec 32 := Scalar.muli v62 c1_i32_944
  let v781 : BitVec 32 := Scalar.addi c0_i32_945 v780
  v781.toNat
def k0_dev22 (d0 : Dev nD) : Nat :=
  let c0_i32_994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_993 : BitVec 32 := 1#32
  let v813 : BitVec 32 := Scalar.muli v92 c1_i32_993
  let v814 : BitVec 32 := Scalar.addi c0_i32_994 v813
  v814.toNat
def k0_dev23 (d0 : Dev nD) : Nat :=
  let c0_i32_1069 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1068 : BitVec 32 := 1#32
  let v882 : BitVec 32 := Scalar.muli v62 c1_i32_1068
  let v883 : BitVec 32 := Scalar.addi c0_i32_1069 v882
  v883.toNat
def k0_dev24 (d0 : Dev nD) : Nat :=
  let c0_i32_1118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1117 : BitVec 32 := 1#32
  let v915 : BitVec 32 := Scalar.muli v92 c1_i32_1117
  let v916 : BitVec 32 := Scalar.addi c0_i32_1118 v915
  v916.toNat
def k0_dev25 (d0 : Dev nD) : Nat :=
  let c0_i32_1167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1166 : BitVec 32 := 1#32
  let v948 : BitVec 32 := Scalar.muli v62 c1_i32_1166
  let v949 : BitVec 32 := Scalar.addi c0_i32_1167 v948
  v949.toNat
def k0_dev26 (d0 : Dev nD) : Nat :=
  let c0_i32_1216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1215 : BitVec 32 := 1#32
  let v981 : BitVec 32 := Scalar.muli v92 c1_i32_1215
  let v982 : BitVec 32 := Scalar.addi c0_i32_1216 v981
  v982.toNat
def k0_dev27 (d0 : Dev nD) : Nat :=
  let c0_i32_1291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1290 : BitVec 32 := 1#32
  let v1050 : BitVec 32 := Scalar.muli v62 c1_i32_1290
  let v1051 : BitVec 32 := Scalar.addi c0_i32_1291 v1050
  v1051.toNat
def k0_dev28 (d0 : Dev nD) : Nat :=
  let c0_i32_1340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1339 : BitVec 32 := 1#32
  let v1083 : BitVec 32 := Scalar.muli v92 c1_i32_1339
  let v1084 : BitVec 32 := Scalar.addi c0_i32_1340 v1083
  v1084.toNat
def k0_dev29 (d0 : Dev nD) : Nat :=
  let c0_i32_1389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1388 : BitVec 32 := 1#32
  let v1116 : BitVec 32 := Scalar.muli v62 c1_i32_1388
  let v1117 : BitVec 32 := Scalar.addi c0_i32_1389 v1116
  v1117.toNat
def k0_dev30 (d0 : Dev nD) : Nat :=
  let c0_i32_1438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1437 : BitVec 32 := 1#32
  let v1149 : BitVec 32 := Scalar.muli v92 c1_i32_1437
  let v1150 : BitVec 32 := Scalar.addi c0_i32_1438 v1149
  v1150.toNat
def k0_dev31 (d0 : Dev nD) : Nat :=
  let c0_i32_1513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1512 : BitVec 32 := 1#32
  let v1218 : BitVec 32 := Scalar.muli v62 c1_i32_1512
  let v1219 : BitVec 32 := Scalar.addi c0_i32_1513 v1218
  v1219.toNat
def k0_dev32 (d0 : Dev nD) : Nat :=
  let c0_i32_1562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1561 : BitVec 32 := 1#32
  let v1251 : BitVec 32 := Scalar.muli v92 c1_i32_1561
  let v1252 : BitVec 32 := Scalar.addi c0_i32_1562 v1251
  v1252.toNat
def k0_dev33 (d0 : Dev nD) : Nat :=
  let c0_i32_1611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1610 : BitVec 32 := 1#32
  let v1284 : BitVec 32 := Scalar.muli v62 c1_i32_1610
  let v1285 : BitVec 32 := Scalar.addi c0_i32_1611 v1284
  v1285.toNat
def k0_dev34 (d0 : Dev nD) : Nat :=
  let c0_i32_1660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1659 : BitVec 32 := 1#32
  let v1317 : BitVec 32 := Scalar.muli v92 c1_i32_1659
  let v1318 : BitVec 32 := Scalar.addi c0_i32_1660 v1317
  v1318.toNat
def k0_dev35 (d0 : Dev nD) : Nat :=
  let c0_i32_1735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1734 : BitVec 32 := 1#32
  let v1386 : BitVec 32 := Scalar.muli v62 c1_i32_1734
  let v1387 : BitVec 32 := Scalar.addi c0_i32_1735 v1386
  v1387.toNat
def k0_dev36 (d0 : Dev nD) : Nat :=
  let c0_i32_1784 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1783 : BitVec 32 := 1#32
  let v1419 : BitVec 32 := Scalar.muli v92 c1_i32_1783
  let v1420 : BitVec 32 := Scalar.addi c0_i32_1784 v1419
  v1420.toNat
def k0_dev37 (d0 : Dev nD) : Nat :=
  let c0_i32_1833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1832 : BitVec 32 := 1#32
  let v1452 : BitVec 32 := Scalar.muli v62 c1_i32_1832
  let v1453 : BitVec 32 := Scalar.addi c0_i32_1833 v1452
  v1453.toNat
def k0_dev38 (d0 : Dev nD) : Nat :=
  let c0_i32_1882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1881 : BitVec 32 := 1#32
  let v1485 : BitVec 32 := Scalar.muli v92 c1_i32_1881
  let v1486 : BitVec 32 := Scalar.addi c0_i32_1882 v1485
  v1486.toNat
def k0_dev39 (d0 : Dev nD) : Nat :=
  let c0_i32_1957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1956 : BitVec 32 := 1#32
  let v1554 : BitVec 32 := Scalar.muli v62 c1_i32_1956
  let v1555 : BitVec 32 := Scalar.addi c0_i32_1957 v1554
  v1555.toNat
def k0_dev40 (d0 : Dev nD) : Nat :=
  let c0_i32_2006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2005 : BitVec 32 := 1#32
  let v1587 : BitVec 32 := Scalar.muli v92 c1_i32_2005
  let v1588 : BitVec 32 := Scalar.addi c0_i32_2006 v1587
  v1588.toNat
def k0_dev41 (d0 : Dev nD) : Nat :=
  let c0_i32_2055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2054 : BitVec 32 := 1#32
  let v1620 : BitVec 32 := Scalar.muli v62 c1_i32_2054
  let v1621 : BitVec 32 := Scalar.addi c0_i32_2055 v1620
  v1621.toNat
def k0_dev42 (d0 : Dev nD) : Nat :=
  let c0_i32_2104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2103 : BitVec 32 := 1#32
  let v1653 : BitVec 32 := Scalar.muli v92 c1_i32_2103
  let v1654 : BitVec 32 := Scalar.addi c0_i32_2104 v1653
  v1654.toNat
def k0_dev43 (d0 : Dev nD) : Nat :=
  let c0_i32_2179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2178 : BitVec 32 := 1#32
  let v1722 : BitVec 32 := Scalar.muli v62 c1_i32_2178
  let v1723 : BitVec 32 := Scalar.addi c0_i32_2179 v1722
  v1723.toNat
def k0_dev44 (d0 : Dev nD) : Nat :=
  let c0_i32_2228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2227 : BitVec 32 := 1#32
  let v1755 : BitVec 32 := Scalar.muli v92 c1_i32_2227
  let v1756 : BitVec 32 := Scalar.addi c0_i32_2228 v1755
  v1756.toNat
def k0_dev45 (d0 : Dev nD) : Nat :=
  let c0_i32_2277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2276 : BitVec 32 := 1#32
  let v1788 : BitVec 32 := Scalar.muli v62 c1_i32_2276
  let v1789 : BitVec 32 := Scalar.addi c0_i32_2277 v1788
  v1789.toNat
def k0_dev46 (d0 : Dev nD) : Nat :=
  let c0_i32_2326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2325 : BitVec 32 := 1#32
  let v1821 : BitVec 32 := Scalar.muli v92 c1_i32_2325
  let v1822 : BitVec 32 := Scalar.addi c0_i32_2326 v1821
  v1822.toNat
def k0_dev47 (d0 : Dev nD) : Nat :=
  let c0_i32_2401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2400 : BitVec 32 := 1#32
  let v1890 : BitVec 32 := Scalar.muli v62 c1_i32_2400
  let v1891 : BitVec 32 := Scalar.addi c0_i32_2401 v1890
  v1891.toNat
def k0_dev48 (d0 : Dev nD) : Nat :=
  let c0_i32_2450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2449 : BitVec 32 := 1#32
  let v1923 : BitVec 32 := Scalar.muli v92 c1_i32_2449
  let v1924 : BitVec 32 := Scalar.addi c0_i32_2450 v1923
  v1924.toNat
def k0_dev49 (d0 : Dev nD) : Nat :=
  let c0_i32_2499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2498 : BitVec 32 := 1#32
  let v1956 : BitVec 32 := Scalar.muli v62 c1_i32_2498
  let v1957 : BitVec 32 := Scalar.addi c0_i32_2499 v1956
  v1957.toNat
def k0_dev50 (d0 : Dev nD) : Nat :=
  let c0_i32_2548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2547 : BitVec 32 := 1#32
  let v1989 : BitVec 32 := Scalar.muli v92 c1_i32_2547
  let v1990 : BitVec 32 := Scalar.addi c0_i32_2548 v1989
  v1990.toNat
def k0_dev51 (d0 : Dev nD) : Nat :=
  let c0_i32_2623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2622 : BitVec 32 := 1#32
  let v2058 : BitVec 32 := Scalar.muli v62 c1_i32_2622
  let v2059 : BitVec 32 := Scalar.addi c0_i32_2623 v2058
  v2059.toNat
def k0_dev52 (d0 : Dev nD) : Nat :=
  let c0_i32_2672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2671 : BitVec 32 := 1#32
  let v2091 : BitVec 32 := Scalar.muli v92 c1_i32_2671
  let v2092 : BitVec 32 := Scalar.addi c0_i32_2672 v2091
  v2092.toNat
def k0_dev53 (d0 : Dev nD) : Nat :=
  let c0_i32_2721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2720 : BitVec 32 := 1#32
  let v2124 : BitVec 32 := Scalar.muli v62 c1_i32_2720
  let v2125 : BitVec 32 := Scalar.addi c0_i32_2721 v2124
  v2125.toNat
def k0_dev54 (d0 : Dev nD) : Nat :=
  let c0_i32_2770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2769 : BitVec 32 := 1#32
  let v2157 : BitVec 32 := Scalar.muli v92 c1_i32_2769
  let v2158 : BitVec 32 := Scalar.addi c0_i32_2770 v2157
  v2158.toNat
def k0_dev55 (d0 : Dev nD) : Nat :=
  let c0_i32_2845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2844 : BitVec 32 := 1#32
  let v2226 : BitVec 32 := Scalar.muli v62 c1_i32_2844
  let v2227 : BitVec 32 := Scalar.addi c0_i32_2845 v2226
  v2227.toNat
def k0_dev56 (d0 : Dev nD) : Nat :=
  let c0_i32_2894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2893 : BitVec 32 := 1#32
  let v2259 : BitVec 32 := Scalar.muli v92 c1_i32_2893
  let v2260 : BitVec 32 := Scalar.addi c0_i32_2894 v2259
  v2260.toNat
def k0_dev57 (d0 : Dev nD) : Nat :=
  let c0_i32_2943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2942 : BitVec 32 := 1#32
  let v2292 : BitVec 32 := Scalar.muli v62 c1_i32_2942
  let v2293 : BitVec 32 := Scalar.addi c0_i32_2943 v2292
  v2293.toNat
def k0_dev58 (d0 : Dev nD) : Nat :=
  let c0_i32_2992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2991 : BitVec 32 := 1#32
  let v2325 : BitVec 32 := Scalar.muli v92 c1_i32_2991
  let v2326 : BitVec 32 := Scalar.addi c0_i32_2992 v2325
  v2326.toNat
def k0_dev59 (d0 : Dev nD) : Nat :=
  let c0_i32_3067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3066 : BitVec 32 := 1#32
  let v2394 : BitVec 32 := Scalar.muli v62 c1_i32_3066
  let v2395 : BitVec 32 := Scalar.addi c0_i32_3067 v2394
  v2395.toNat
def k0_dev60 (d0 : Dev nD) : Nat :=
  let c0_i32_3116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3115 : BitVec 32 := 1#32
  let v2427 : BitVec 32 := Scalar.muli v92 c1_i32_3115
  let v2428 : BitVec 32 := Scalar.addi c0_i32_3116 v2427
  v2428.toNat
def k0_dev61 (d0 : Dev nD) : Nat :=
  let c0_i32_3165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3164 : BitVec 32 := 1#32
  let v2460 : BitVec 32 := Scalar.muli v62 c1_i32_3164
  let v2461 : BitVec 32 := Scalar.addi c0_i32_3165 v2460
  v2461.toNat
def k0_dev62 (d0 : Dev nD) : Nat :=
  let c0_i32_3214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3213 : BitVec 32 := 1#32
  let v2493 : BitVec 32 := Scalar.muli v92 c1_i32_3213
  let v2494 : BitVec 32 := Scalar.addi c0_i32_3214 v2493
  v2494.toNat
def k0_dev63 (d0 : Dev nD) : Nat :=
  let c0_i32_3292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3291 : BitVec 32 := 1#32
  let v2566 : BitVec 32 := Scalar.muli v62 c1_i32_3291
  let v2567 : BitVec 32 := Scalar.addi c0_i32_3292 v2566
  v2567.toNat
def k0_off4 (d0 : Dev nD) (c0_i32_3246 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c14_i32_3219 : BitVec 32 := 14#32
  let v2503 : BitVec 32 := Scalar.subi v32 c14_i32_3219
  let c1_i32_3220 : BitVec 32 := 1#32
  let v2504 : BitVec 32 := Scalar.subi v2503 c1_i32_3220
  let c16_i32_3221 : BitVec 32 := 16#32
  let c0_i32_3222 : BitVec 32 := 0#32
  let v2505 : BitVec 1 := Scalar.cmpi .eq c16_i32_3221 c0_i32_3222
  let c1_i32_3223 : BitVec 32 := 1#32
  let v2506 : BitVec 32 := Scalar.select v2505 c1_i32_3223 c16_i32_3221
  let v2507 : BitVec 32 := Scalar.remsi v2504 v2506
  let c0_i32_3225 : BitVec 32 := 0#32
  let v2509 : BitVec 1 := Scalar.cmpi .slt v2507 c0_i32_3225
  let c0_i32_3226 : BitVec 32 := 0#32
  let v2510 : BitVec 1 := Scalar.cmpi .slt v2506 c0_i32_3226
  let v2511 : BitVec 1 := Scalar.xori v2509 v2510
  let c0_i32_3224 : BitVec 32 := 0#32
  let v2508 : BitVec 1 := Scalar.cmpi .ne v2507 c0_i32_3224
  let v2512 : BitVec 1 := Scalar.andi v2511 v2508
  let v2513 : BitVec 32 := Scalar.addi v2507 v2506
  let v2514 : BitVec 32 := Scalar.select v2512 v2513 v2507
  let c256_i32_3245 : BitVec 32 := 256#32
  let v2539 : BitVec 32 := Scalar.muli v2514 c256_i32_3245
  let v2540 : BitVec 32 := Scalar.addi v2539 c0_i32_3246
  let c0_i32_3309 : BitVec 32 := 0#32
  ![v2540.toNat, 0]
def k0_dev64 (d0 : Dev nD) : Nat :=
  let c0_i32_3359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3358 : BitVec 32 := 1#32
  let v2613 : BitVec 32 := Scalar.muli v92 c1_i32_3358
  let v2614 : BitVec 32 := Scalar.addi c0_i32_3359 v2613
  v2614.toNat
def k0_off5 (d0 : Dev nD) (c0_i32_3313 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c14_i32_3227 : BitVec 32 := 14#32
  let v2515 : BitVec 32 := Scalar.addi v32 c14_i32_3227
  let c1_i32_3228 : BitVec 32 := 1#32
  let v2516 : BitVec 32 := Scalar.addi v2515 c1_i32_3228
  let c16_i32_3229 : BitVec 32 := 16#32
  let c0_i32_3230 : BitVec 32 := 0#32
  let v2517 : BitVec 1 := Scalar.cmpi .eq c16_i32_3229 c0_i32_3230
  let c1_i32_3231 : BitVec 32 := 1#32
  let v2518 : BitVec 32 := Scalar.select v2517 c1_i32_3231 c16_i32_3229
  let v2519 : BitVec 32 := Scalar.remsi v2516 v2518
  let c0_i32_3233 : BitVec 32 := 0#32
  let v2521 : BitVec 1 := Scalar.cmpi .slt v2519 c0_i32_3233
  let c0_i32_3234 : BitVec 32 := 0#32
  let v2522 : BitVec 1 := Scalar.cmpi .slt v2518 c0_i32_3234
  let v2523 : BitVec 1 := Scalar.xori v2521 v2522
  let c0_i32_3232 : BitVec 32 := 0#32
  let v2520 : BitVec 1 := Scalar.cmpi .ne v2519 c0_i32_3232
  let v2524 : BitVec 1 := Scalar.andi v2523 v2520
  let v2525 : BitVec 32 := Scalar.addi v2519 v2518
  let v2526 : BitVec 32 := Scalar.select v2524 v2525 v2519
  let c256_i32_3312 : BitVec 32 := 256#32
  let v2586 : BitVec 32 := Scalar.muli v2526 c256_i32_3312
  let v2587 : BitVec 32 := Scalar.addi v2586 c0_i32_3313
  let c1024_i32 : BitVec 32 := 1024#32
  ![v2587.toNat, 1024]
def k0_dev65 (d0 : Dev nD) : Nat :=
  let c0_i32_3424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3423 : BitVec 32 := 1#32
  let v2660 : BitVec 32 := Scalar.muli v62 c1_i32_3423
  let v2661 : BitVec 32 := Scalar.addi c0_i32_3424 v2660
  v2661.toNat
def k0_dev66 (d0 : Dev nD) : Nat :=
  let c0_i32_3491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3490 : BitVec 32 := 1#32
  let v2707 : BitVec 32 := Scalar.muli v92 c1_i32_3490
  let v2708 : BitVec 32 := Scalar.addi c0_i32_3491 v2707
  v2708.toNat
def k0_dev67 (d0 : Dev nD) : Nat :=
  let c0_i32_3563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3562 : BitVec 32 := 1#32
  let v2765 : BitVec 32 := Scalar.muli v62 c1_i32_3562
  let v2766 : BitVec 32 := Scalar.addi c0_i32_3563 v2765
  v2766.toNat
def k0_off6 (d0 : Dev nD) (c0_i32_3511 : BitVec 32) (c0_i32_3526 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v2727 : BitVec 32 := Scalar.subi v32 c0_i32_3511
  let c16_i32_3512 : BitVec 32 := 16#32
  let c0_i32_3513 : BitVec 32 := 0#32
  let v2728 : BitVec 1 := Scalar.cmpi .eq c16_i32_3512 c0_i32_3513
  let c1_i32_3514 : BitVec 32 := 1#32
  let v2729 : BitVec 32 := Scalar.select v2728 c1_i32_3514 c16_i32_3512
  let v2730 : BitVec 32 := Scalar.remsi v2727 v2729
  let c0_i32_3516 : BitVec 32 := 0#32
  let v2732 : BitVec 1 := Scalar.cmpi .slt v2730 c0_i32_3516
  let c0_i32_3517 : BitVec 32 := 0#32
  let v2733 : BitVec 1 := Scalar.cmpi .slt v2729 c0_i32_3517
  let v2734 : BitVec 1 := Scalar.xori v2732 v2733
  let c0_i32_3515 : BitVec 32 := 0#32
  let v2731 : BitVec 1 := Scalar.cmpi .ne v2730 c0_i32_3515
  let v2735 : BitVec 1 := Scalar.andi v2734 v2731
  let v2736 : BitVec 32 := Scalar.addi v2730 v2729
  let v2737 : BitVec 32 := Scalar.select v2735 v2736 v2730
  let c256_i32_3525 : BitVec 32 := 256#32
  let v2749 : BitVec 32 := Scalar.muli v2737 c256_i32_3525
  let v2750 : BitVec 32 := Scalar.addi v2749 c0_i32_3526
  let c0_i32_3580 : BitVec 32 := 0#32
  ![v2750.toNat, 0]
def k0_dev68 (d0 : Dev nD) : Nat :=
  let c0_i32_3621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3620 : BitVec 32 := 1#32
  let v2801 : BitVec 32 := Scalar.muli v92 c1_i32_3620
  let v2802 : BitVec 32 := Scalar.addi c0_i32_3621 v2801
  v2802.toNat
def k0_off7 (d0 : Dev nD) (c0_i32_3518 : BitVec 32) (c0_i32_3584 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v2738 : BitVec 32 := Scalar.addi v32 c0_i32_3518
  let c16_i32_3519 : BitVec 32 := 16#32
  let c0_i32_3520 : BitVec 32 := 0#32
  let v2739 : BitVec 1 := Scalar.cmpi .eq c16_i32_3519 c0_i32_3520
  let c1_i32_3521 : BitVec 32 := 1#32
  let v2740 : BitVec 32 := Scalar.select v2739 c1_i32_3521 c16_i32_3519
  let v2741 : BitVec 32 := Scalar.remsi v2738 v2740
  let c0_i32_3523 : BitVec 32 := 0#32
  let v2743 : BitVec 1 := Scalar.cmpi .slt v2741 c0_i32_3523
  let c0_i32_3524 : BitVec 32 := 0#32
  let v2744 : BitVec 1 := Scalar.cmpi .slt v2740 c0_i32_3524
  let v2745 : BitVec 1 := Scalar.xori v2743 v2744
  let c0_i32_3522 : BitVec 32 := 0#32
  let v2742 : BitVec 1 := Scalar.cmpi .ne v2741 c0_i32_3522
  let v2746 : BitVec 1 := Scalar.andi v2745 v2742
  let v2747 : BitVec 32 := Scalar.addi v2741 v2740
  let v2748 : BitVec 32 := Scalar.select v2746 v2747 v2741
  let c256_i32_3583 : BitVec 32 := 256#32
  let v2785 : BitVec 32 := Scalar.muli v2748 c256_i32_3583
  let v2786 : BitVec 32 := Scalar.addi v2785 c0_i32_3584
  let c1024_i32_3638 : BitVec 32 := 1024#32
  ![v2786.toNat, 1024]
def k0_dev69 (d0 : Dev nD) : Nat :=
  let c0_i32_3679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3678 : BitVec 32 := 1#32
  let v2837 : BitVec 32 := Scalar.muli v62 c1_i32_3678
  let v2838 : BitVec 32 := Scalar.addi c0_i32_3679 v2837
  v2838.toNat
def k0_dev70 (d0 : Dev nD) : Nat :=
  let c0_i32_3737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3736 : BitVec 32 := 1#32
  let v2873 : BitVec 32 := Scalar.muli v92 c1_i32_3736
  let v2874 : BitVec 32 := Scalar.addi c0_i32_3737 v2873
  v2874.toNat
def k0_dev71 (d0 : Dev nD) : Nat :=
  let c0_i32_3809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3808 : BitVec 32 := 1#32
  let v2931 : BitVec 32 := Scalar.muli v62 c1_i32_3808
  let v2932 : BitVec 32 := Scalar.addi c0_i32_3809 v2931
  v2932.toNat
def k0_dev72 (d0 : Dev nD) : Nat :=
  let c0_i32_3874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3873 : BitVec 32 := 1#32
  let v2972 : BitVec 32 := Scalar.muli v92 c1_i32_3873
  let v2973 : BitVec 32 := Scalar.addi c0_i32_3874 v2972
  v2973.toNat
def k0_dev73 (d0 : Dev nD) : Nat :=
  let c0_i32_3939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3938 : BitVec 32 := 1#32
  let v3013 : BitVec 32 := Scalar.muli v62 c1_i32_3938
  let v3014 : BitVec 32 := Scalar.addi c0_i32_3939 v3013
  v3014.toNat
def k0_dev74 (d0 : Dev nD) : Nat :=
  let c0_i32_4004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4003 : BitVec 32 := 1#32
  let v3054 : BitVec 32 := Scalar.muli v92 c1_i32_4003
  let v3055 : BitVec 32 := Scalar.addi c0_i32_4004 v3054
  v3055.toNat
def k0_dev75 (d0 : Dev nD) : Nat :=
  let c0_i32_4083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4082 : BitVec 32 := 1#32
  let v3117 : BitVec 32 := Scalar.muli v62 c1_i32_4082
  let v3118 : BitVec 32 := Scalar.addi c0_i32_4083 v3117
  v3118.toNat
def k0_dev76 (d0 : Dev nD) : Nat :=
  let c0_i32_4148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4147 : BitVec 32 := 1#32
  let v3158 : BitVec 32 := Scalar.muli v92 c1_i32_4147
  let v3159 : BitVec 32 := Scalar.addi c0_i32_4148 v3158
  v3159.toNat
def k0_dev77 (d0 : Dev nD) : Nat :=
  let c0_i32_4213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4212 : BitVec 32 := 1#32
  let v3199 : BitVec 32 := Scalar.muli v62 c1_i32_4212
  let v3200 : BitVec 32 := Scalar.addi c0_i32_4213 v3199
  v3200.toNat
def k0_dev78 (d0 : Dev nD) : Nat :=
  let c0_i32_4278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4277 : BitVec 32 := 1#32
  let v3240 : BitVec 32 := Scalar.muli v92 c1_i32_4277
  let v3241 : BitVec 32 := Scalar.addi c0_i32_4278 v3240
  v3241.toNat
def k0_dev79 (d0 : Dev nD) : Nat :=
  let c0_i32_4357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4356 : BitVec 32 := 1#32
  let v3303 : BitVec 32 := Scalar.muli v62 c1_i32_4356
  let v3304 : BitVec 32 := Scalar.addi c0_i32_4357 v3303
  v3304.toNat
def k0_dev80 (d0 : Dev nD) : Nat :=
  let c0_i32_4422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4421 : BitVec 32 := 1#32
  let v3344 : BitVec 32 := Scalar.muli v92 c1_i32_4421
  let v3345 : BitVec 32 := Scalar.addi c0_i32_4422 v3344
  v3345.toNat
def k0_dev81 (d0 : Dev nD) : Nat :=
  let c0_i32_4487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4486 : BitVec 32 := 1#32
  let v3385 : BitVec 32 := Scalar.muli v62 c1_i32_4486
  let v3386 : BitVec 32 := Scalar.addi c0_i32_4487 v3385
  v3386.toNat
def k0_dev82 (d0 : Dev nD) : Nat :=
  let c0_i32_4552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4551 : BitVec 32 := 1#32
  let v3426 : BitVec 32 := Scalar.muli v92 c1_i32_4551
  let v3427 : BitVec 32 := Scalar.addi c0_i32_4552 v3426
  v3427.toNat
def k0_dev83 (d0 : Dev nD) : Nat :=
  let c0_i32_4631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4630 : BitVec 32 := 1#32
  let v3489 : BitVec 32 := Scalar.muli v62 c1_i32_4630
  let v3490 : BitVec 32 := Scalar.addi c0_i32_4631 v3489
  v3490.toNat
def k0_dev84 (d0 : Dev nD) : Nat :=
  let c0_i32_4696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4695 : BitVec 32 := 1#32
  let v3530 : BitVec 32 := Scalar.muli v92 c1_i32_4695
  let v3531 : BitVec 32 := Scalar.addi c0_i32_4696 v3530
  v3531.toNat
def k0_dev85 (d0 : Dev nD) : Nat :=
  let c0_i32_4761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4760 : BitVec 32 := 1#32
  let v3571 : BitVec 32 := Scalar.muli v62 c1_i32_4760
  let v3572 : BitVec 32 := Scalar.addi c0_i32_4761 v3571
  v3572.toNat
def k0_dev86 (d0 : Dev nD) : Nat :=
  let c0_i32_4826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4825 : BitVec 32 := 1#32
  let v3612 : BitVec 32 := Scalar.muli v92 c1_i32_4825
  let v3613 : BitVec 32 := Scalar.addi c0_i32_4826 v3612
  v3613.toNat
def k0_dev87 (d0 : Dev nD) : Nat :=
  let c0_i32_4905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4904 : BitVec 32 := 1#32
  let v3675 : BitVec 32 := Scalar.muli v62 c1_i32_4904
  let v3676 : BitVec 32 := Scalar.addi c0_i32_4905 v3675
  v3676.toNat
def k0_dev88 (d0 : Dev nD) : Nat :=
  let c0_i32_4970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4969 : BitVec 32 := 1#32
  let v3716 : BitVec 32 := Scalar.muli v92 c1_i32_4969
  let v3717 : BitVec 32 := Scalar.addi c0_i32_4970 v3716
  v3717.toNat
def k0_dev89 (d0 : Dev nD) : Nat :=
  let c0_i32_5035 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_5034 : BitVec 32 := 1#32
  let v3757 : BitVec 32 := Scalar.muli v62 c1_i32_5034
  let v3758 : BitVec 32 := Scalar.addi c0_i32_5035 v3757
  v3758.toNat
def k0_dev90 (d0 : Dev nD) : Nat :=
  let c0_i32_5100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_5099 : BitVec 32 := 1#32
  let v3798 : BitVec 32 := Scalar.muli v92 c1_i32_5099
  let v3799 : BitVec 32 := Scalar.addi c0_i32_5100 v3798
  v3799.toNat
def k0_dev91 (d0 : Dev nD) : Nat :=
  let c0_i32_5179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_5178 : BitVec 32 := 1#32
  let v3861 : BitVec 32 := Scalar.muli v62 c1_i32_5178
  let v3862 : BitVec 32 := Scalar.addi c0_i32_5179 v3861
  v3862.toNat
def k0_dev92 (d0 : Dev nD) : Nat :=
  let c0_i32_5244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_5243 : BitVec 32 := 1#32
  let v3902 : BitVec 32 := Scalar.muli v92 c1_i32_5243
  let v3903 : BitVec 32 := Scalar.addi c0_i32_5244 v3902
  v3903.toNat
def k0_dev93 (d0 : Dev nD) : Nat :=
  let c0_i32_5309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_5308 : BitVec 32 := 1#32
  let v3943 : BitVec 32 := Scalar.muli v62 c1_i32_5308
  let v3944 : BitVec 32 := Scalar.addi c0_i32_5309 v3943
  v3944.toNat
def k0_dev94 (d0 : Dev nD) : Nat :=
  let c0_i32_5374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_5373 : BitVec 32 := 1#32
  let v3984 : BitVec 32 := Scalar.muli v92 c1_i32_5373
  let v3985 : BitVec 32 := Scalar.addi c0_i32_5374 v3984
  v3985.toNat
def k0_dev95 (d0 : Dev nD) : Nat :=
  let c0_i32_5453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_5452 : BitVec 32 := 1#32
  let v4047 : BitVec 32 := Scalar.muli v62 c1_i32_5452
  let v4048 : BitVec 32 := Scalar.addi c0_i32_5453 v4047
  v4048.toNat
def k0_dev96 (d0 : Dev nD) : Nat :=
  let c0_i32_5518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_5517 : BitVec 32 := 1#32
  let v4088 : BitVec 32 := Scalar.muli v92 c1_i32_5517
  let v4089 : BitVec 32 := Scalar.addi c0_i32_5518 v4088
  v4089.toNat
def k0_dev97 (d0 : Dev nD) : Nat :=
  let c0_i32_5583 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_5582 : BitVec 32 := 1#32
  let v4129 : BitVec 32 := Scalar.muli v62 c1_i32_5582
  let v4130 : BitVec 32 := Scalar.addi c0_i32_5583 v4129
  v4130.toNat
def k0_dev98 (d0 : Dev nD) : Nat :=
  let c0_i32_5648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_5647 : BitVec 32 := 1#32
  let v4170 : BitVec 32 := Scalar.muli v92 c1_i32_5647
  let v4171 : BitVec 32 := Scalar.addi c0_i32_5648 v4170
  v4171.toNat
def k0_dev99 (d0 : Dev nD) : Nat :=
  let c0_i32_5727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_5726 : BitVec 32 := 1#32
  let v4233 : BitVec 32 := Scalar.muli v62 c1_i32_5726
  let v4234 : BitVec 32 := Scalar.addi c0_i32_5727 v4233
  v4234.toNat
def k0_dev100 (d0 : Dev nD) : Nat :=
  let c0_i32_5792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_5791 : BitVec 32 := 1#32
  let v4274 : BitVec 32 := Scalar.muli v92 c1_i32_5791
  let v4275 : BitVec 32 := Scalar.addi c0_i32_5792 v4274
  v4275.toNat
def k0_dev101 (d0 : Dev nD) : Nat :=
  let c0_i32_5857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_5856 : BitVec 32 := 1#32
  let v4315 : BitVec 32 := Scalar.muli v62 c1_i32_5856
  let v4316 : BitVec 32 := Scalar.addi c0_i32_5857 v4315
  v4316.toNat
def k0_dev102 (d0 : Dev nD) : Nat :=
  let c0_i32_5922 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_5921 : BitVec 32 := 1#32
  let v4356 : BitVec 32 := Scalar.muli v92 c1_i32_5921
  let v4357 : BitVec 32 := Scalar.addi c0_i32_5922 v4356
  v4357.toNat
def k0_dev103 (d0 : Dev nD) : Nat :=
  let c0_i32_6001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_6000 : BitVec 32 := 1#32
  let v4419 : BitVec 32 := Scalar.muli v62 c1_i32_6000
  let v4420 : BitVec 32 := Scalar.addi c0_i32_6001 v4419
  v4420.toNat
def k0_dev104 (d0 : Dev nD) : Nat :=
  let c0_i32_6066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_6065 : BitVec 32 := 1#32
  let v4460 : BitVec 32 := Scalar.muli v92 c1_i32_6065
  let v4461 : BitVec 32 := Scalar.addi c0_i32_6066 v4460
  v4461.toNat
def k0_dev105 (d0 : Dev nD) : Nat :=
  let c0_i32_6131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_6130 : BitVec 32 := 1#32
  let v4501 : BitVec 32 := Scalar.muli v62 c1_i32_6130
  let v4502 : BitVec 32 := Scalar.addi c0_i32_6131 v4501
  v4502.toNat
def k0_dev106 (d0 : Dev nD) : Nat :=
  let c0_i32_6196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_6195 : BitVec 32 := 1#32
  let v4542 : BitVec 32 := Scalar.muli v92 c1_i32_6195
  let v4543 : BitVec 32 := Scalar.addi c0_i32_6196 v4542
  v4543.toNat
def k0_dev107 (d0 : Dev nD) : Nat :=
  let c0_i32_6275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_6274 : BitVec 32 := 1#32
  let v4605 : BitVec 32 := Scalar.muli v62 c1_i32_6274
  let v4606 : BitVec 32 := Scalar.addi c0_i32_6275 v4605
  v4606.toNat
def k0_dev108 (d0 : Dev nD) : Nat :=
  let c0_i32_6340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_6339 : BitVec 32 := 1#32
  let v4646 : BitVec 32 := Scalar.muli v92 c1_i32_6339
  let v4647 : BitVec 32 := Scalar.addi c0_i32_6340 v4646
  v4647.toNat
def k0_dev109 (d0 : Dev nD) : Nat :=
  let c0_i32_6405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_6404 : BitVec 32 := 1#32
  let v4687 : BitVec 32 := Scalar.muli v62 c1_i32_6404
  let v4688 : BitVec 32 := Scalar.addi c0_i32_6405 v4687
  v4688.toNat
def k0_dev110 (d0 : Dev nD) : Nat :=
  let c0_i32_6470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_6469 : BitVec 32 := 1#32
  let v4728 : BitVec 32 := Scalar.muli v92 c1_i32_6469
  let v4729 : BitVec 32 := Scalar.addi c0_i32_6470 v4728
  v4729.toNat
def k0_dev111 (d0 : Dev nD) : Nat :=
  let c0_i32_6549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_6548 : BitVec 32 := 1#32
  let v4791 : BitVec 32 := Scalar.muli v62 c1_i32_6548
  let v4792 : BitVec 32 := Scalar.addi c0_i32_6549 v4791
  v4792.toNat
def k0_dev112 (d0 : Dev nD) : Nat :=
  let c0_i32_6614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_6613 : BitVec 32 := 1#32
  let v4832 : BitVec 32 := Scalar.muli v92 c1_i32_6613
  let v4833 : BitVec 32 := Scalar.addi c0_i32_6614 v4832
  v4833.toNat
def k0_dev113 (d0 : Dev nD) : Nat :=
  let c0_i32_6679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_6678 : BitVec 32 := 1#32
  let v4873 : BitVec 32 := Scalar.muli v62 c1_i32_6678
  let v4874 : BitVec 32 := Scalar.addi c0_i32_6679 v4873
  v4874.toNat
def k0_dev114 (d0 : Dev nD) : Nat :=
  let c0_i32_6744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_6743 : BitVec 32 := 1#32
  let v4914 : BitVec 32 := Scalar.muli v92 c1_i32_6743
  let v4915 : BitVec 32 := Scalar.addi c0_i32_6744 v4914
  v4915.toNat
def k0_dev115 (d0 : Dev nD) : Nat :=
  let c0_i32_6823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_6822 : BitVec 32 := 1#32
  let v4977 : BitVec 32 := Scalar.muli v62 c1_i32_6822
  let v4978 : BitVec 32 := Scalar.addi c0_i32_6823 v4977
  v4978.toNat
def k0_dev116 (d0 : Dev nD) : Nat :=
  let c0_i32_6888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_6887 : BitVec 32 := 1#32
  let v5018 : BitVec 32 := Scalar.muli v92 c1_i32_6887
  let v5019 : BitVec 32 := Scalar.addi c0_i32_6888 v5018
  v5019.toNat
def k0_dev117 (d0 : Dev nD) : Nat :=
  let c0_i32_6953 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_6952 : BitVec 32 := 1#32
  let v5059 : BitVec 32 := Scalar.muli v62 c1_i32_6952
  let v5060 : BitVec 32 := Scalar.addi c0_i32_6953 v5059
  v5060.toNat
def k0_dev118 (d0 : Dev nD) : Nat :=
  let c0_i32_7018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_7017 : BitVec 32 := 1#32
  let v5100 : BitVec 32 := Scalar.muli v92 c1_i32_7017
  let v5101 : BitVec 32 := Scalar.addi c0_i32_7018 v5100
  v5101.toNat
def k0_dev119 (d0 : Dev nD) : Nat :=
  let c0_i32_7097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_7096 : BitVec 32 := 1#32
  let v5163 : BitVec 32 := Scalar.muli v62 c1_i32_7096
  let v5164 : BitVec 32 := Scalar.addi c0_i32_7097 v5163
  v5164.toNat
def k0_dev120 (d0 : Dev nD) : Nat :=
  let c0_i32_7162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_7161 : BitVec 32 := 1#32
  let v5204 : BitVec 32 := Scalar.muli v92 c1_i32_7161
  let v5205 : BitVec 32 := Scalar.addi c0_i32_7162 v5204
  v5205.toNat
def k0_dev121 (d0 : Dev nD) : Nat :=
  let c0_i32_7227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_7226 : BitVec 32 := 1#32
  let v5245 : BitVec 32 := Scalar.muli v62 c1_i32_7226
  let v5246 : BitVec 32 := Scalar.addi c0_i32_7227 v5245
  v5246.toNat
def k0_dev122 (d0 : Dev nD) : Nat :=
  let c0_i32_7292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_7291 : BitVec 32 := 1#32
  let v5286 : BitVec 32 := Scalar.muli v92 c1_i32_7291
  let v5287 : BitVec 32 := Scalar.addi c0_i32_7292 v5286
  v5287.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Prog.lean ====
/-
The kernel body as one loop.

The printed body is a straight line of some nine hundred memory operations: four rings, each of two directions on
the half rows of a block, take thirty steps around sixteen devices. `ringBody` writes the same line as a program in
the iteration number `h` and the ring number `t`, and `body_eq` states that the printed body IS this program.
-/
module

public import proofs.«01_k».proof.Proof.Gen.KernelIdeal
public import proofs.«01_k».proof.Proof.Gen.KernelIdeal.Skeleton
public import Idealize.ShloMosaic.Lib.Tactic

@[expose] public section

set_option maxRecDepth 16384

noncomputable section

namespace Cert.RingProof

open Cert.KernelIdeal Cert.KernelIdeal.Gen
open Idealize.ShloMosaic Idealize.ShloMosaic.TcCoe
open Idealize.SL Idealize.SL.Sem

variable {F : FTy → Type} [FloatOps F]

/-! ## Slots, devices and tiles at a symbolic ring and iteration -/

/-- The slot of the five-deep receive buffer that iteration `h` lands in. -/
abbrev cs (h : ℕ) : Fin 5 := ⟨h % 5, Nat.mod_lt _ (by decide)⟩
/-- The slot of the two-deep staging buffer that iteration `h` stores from. -/
abbrev gs (h : ℕ) : Fin 2 := ⟨h % 2, Nat.mod_lt _ (by decide)⟩

/-- Every slot lies inside the receive buffer. -/
theorem commInb (t : Fin 4) (s : Fin 5) : ∀ a, (![t.val, s.val, 0, 0] : Fin 4 → Nat) a + S1x1x128x1024.size a ≤ S4x5x128x1024.size a := by
  revert t s; decide
/-- Every slot lies inside the staging buffer. -/
theorem stageInb (t : Fin 4) (s : Fin 2) : ∀ a, (![t.val, s.val, 0, 0] : Fin 4 → Nat) a + S1x1x128x1024.size a ≤ S4x2x128x1024.size a := by
  revert t s; decide
/-- Every slot has its semaphore in an array of five per ring. -/
theorem semInb5 (t : Fin 4) (s : Fin 5) : ∀ a, (![t.val, s.val] : Fin 2 → Nat) a + S1x1.size a ≤ S4x5.size a := by
  revert t s; decide
/-- Every slot has its semaphore in an array of two per ring. -/
theorem semInb2 (t : Fin 4) (s : Fin 2) : ∀ a, (![t.val, s.val] : Fin 2 → Nat) a + S1x1.size a ≤ S4x2.size a := by
  revert t s; decide

/-- Slot `s` of ring `t` in the receive buffer. -/
abbrev commR (t : Fin 4) (s : Fin 5) : Rect S4x5x128x1024 := Rect.unit (s := S4x5x128x1024) ![t.val, s.val, 0, 0] S1x1x128x1024.size (commInb t s)
/-- Slot `s` of ring `t` in the staging buffer. -/
abbrev stageR (t : Fin 4) (s : Fin 2) : Rect S4x2x128x1024 := Rect.unit (s := S4x2x128x1024) ![t.val, s.val, 0, 0] S1x1x128x1024.size (stageInb t s)

/-- A slot of the receive buffer has whole packed rows. -/
theorem commPacked (t : Fin 4) (s : Fin 5) : (commR t s).PackedRows (EltTy.packing .bf16) := by revert t s; decide
/-- A slot of the receive buffer is whole words. -/
theorem commWords (t : Fin 4) (s : Fin 5) : (commR t s).WholeWords (EltTy.packing .bf16) := by revert t s; decide
/-- A slot of the staging buffer has whole packed rows. -/
theorem stagePacked (t : Fin 4) (s : Fin 2) : (stageR t s).PackedRows (EltTy.packing .bf16) := by revert t s; decide
/-- A slot of the staging buffer is whole words. -/
theorem stageWords (t : Fin 4) (s : Fin 2) : (stageR t s).WholeWords (EltTy.packing .bf16) := by revert t s; decide

/-- The row half of a block that ring `t` carries: rings 0, 1 the upper, rings 2, 3 the lower. -/
abbrev sub (t : Fin 4) : Fin 2 := ⟨t.val / 2, by omega⟩

/-- The device ring `t` sends to: the right neighbour on the even rings, the left on the odd. -/
def dst (c : Dev nD) (t : Fin 4) : Dev nD := if t.val % 2 = 0 then ⟨k0_dev2 c, k0_dev2_lt c⟩ else ⟨k0_dev1 c, k0_dev1_lt c⟩

/-- The corner of the result tile that ring `t` of device `c` stores at iteration `h` (15 ≤ h ≤ 30). -/
def outOff (c : Dev nD) (h : ℕ) (t : Fin 4) : Fin 2 → Nat :=
  if h ≤ 15 then
    if t.val % 2 = 0 then k0_off4 c (BitVec.ofNat 32 (128 * (sub t).val)) else k0_off5 c (BitVec.ofNat 32 (128 * (sub t).val))
  else
    if t.val % 2 = 0 then k0_off6 c (BitVec.ofNat 32 ((h - 16) % 15)) (BitVec.ofNat 32 (128 * (sub t).val))
    else k0_off7 c (BitVec.ofNat 32 ((h - 16) % 15)) (BitVec.ofNat 32 (128 * (sub t).val))

/-- Every result tile lies inside the result. -/
theorem outInb (c : Dev nD) (h : ℕ) (t : Fin 4) : ∀ a, outOff c h t a + S128x1024.size a ≤ S4096x2048.size a := by
  unfold outOff
  split <;> split
  · exact k0_off4_inb c (sub t)
  · exact k0_off5_inb c (sub t)
  · exact k0_off6_inb c ⟨(h - 16) % 15, Nat.mod_lt _ (by decide)⟩ (sub t)
  · exact k0_off7_inb c ⟨(h - 16) % 15, Nat.mod_lt _ (by decide)⟩ (sub t)

/-- The result tile that ring `t` of device `c` stores at iteration `h`. -/
abbrev outR (c : Dev nD) (h : ℕ) (t : Fin 4) : Rect S4096x2048 := Rect.unit (s := S4096x2048) (outOff c h t) S128x1024.size (outInb c h t)

/-- A result tile is whole words. -/
theorem outWords (c : Dev nD) (h : ℕ) (t : Fin 4) : (outR c h t).WholeWords (EltTy.packing .bf16) := by
  have key : ∀ (o : Fin 2 → Nat) (i₁ : ∀ a, o a + S128x1024.size a ≤ S4096x2048.size a), outOff c h t = o →
      (Rect.unit (s := S4096x2048) o S128x1024.size i₁).WholeWords (EltTy.packing .bf16) → (outR c h t).WholeWords (EltTy.packing .bf16) := by
    intro o i₁ ho hw; subst ho; exact hw
  by_cases h1 : h ≤ 15 <;> by_cases h2 : t.val % 2 = 0
  · exact key _ (k0_off4_inb c (sub t)) (by simp only [outOff, if_pos h1, if_pos h2]) (k0_off4_wordsbf16 c (sub t))
  · exact key _ (k0_off5_inb c (sub t)) (by simp only [outOff, if_pos h1, if_neg h2]) (k0_off5_wordsbf16 c (sub t))
  · exact key _ (k0_off6_inb c ⟨(h - 16) % 15, Nat.mod_lt _ (by decide)⟩ (sub t)) (by simp only [outOff, if_neg h1, if_pos h2])
      (k0_off6_wordsbf16 c ⟨(h - 16) % 15, Nat.mod_lt _ (by decide)⟩ (sub t))
  · exact key _ (k0_off7_inb c ⟨(h - 16) % 15, Nat.mod_lt _ (by decide)⟩ (sub t)) (by simp only [outOff, if_neg h1, if_neg h2])
      (k0_off7_wordsbf16 c ⟨(h - 16) % 15, Nat.mod_lt _ (by decide)⟩ (sub t))

/-! ## The values the body computes -/

/-- A device's product of one block of `x` rows with one column half of `w`. -/
def prod (x : Vec F S256x256 .bf16) (w : Vec F S256x1024 .bf16) : FVec F S256x1024 .f32 :=
  matmul dot_S256x256_S256x1024_S256x1024_1_0_0_1_n_n none (shapeCast S256x256 x shapeCasts_S256x256_S256x256) w (constant S256x1024 .f32 0x00000000#32)

/-- Each row half lies inside a product. -/
theorem subSlices (i : Fin 2) : S256x1024.Slices ![128 * i.val, 0] S128x1024 := by revert i; decide

/-- The row half `i` of a product. -/
def half (i : Fin 2) (p : FVec F S256x1024 .f32) : FVec F S128x1024 .f32 := extractStridedSlice S128x1024 ![128 * i.val, 0] p (subSlices i)

/-- What a ring starts from: the row half of a product, rounded. -/
def first (i : Fin 2) (p : FVec F S256x1024 .f32) : FVec F S1x1x128x1024 .bf16 :=
  shapeCast S1x1x128x1024 (truncf .bf16 (half i p) bitsLt_bf16_f32) shapeCasts_S128x1024_S1x1x128x1024

/-- The running sum as received, widened, plus the row half of this device's product. -/
def plus (i : Fin 2) (p : FVec F S256x1024 .f32) (y : Vec F S1x1x128x1024 .bf16) : FVec F S128x1024 .f32 :=
  addf (extf .f32 (shapeCast S128x1024 y shapeCasts_S1x1x128x1024_S128x1024) bitsLt_bf16_f32) (half i p)

/-- One step of the reduction: the running sum as received plus the row half of this device's product, rounded. -/
def accum (i : Fin 2) (p : FVec F S256x1024 .f32) (y : Vec F S1x1x128x1024 .bf16) : FVec F S1x1x128x1024 .bf16 :=
  shapeCast S1x1x128x1024 (truncf .bf16 (plus i p y) bitsLt_bf16_f32) shapeCasts_S128x1024_S1x1x128x1024

/-- The last step of the reduction: the same with the maximum with zero before the rounding. -/
def accumRelu (i : Fin 2) (p : FVec F S256x1024 .f32) (y : Vec F S1x1x128x1024 .bf16) : FVec F S1x1x128x1024 .bf16 :=
  shapeCast S1x1x128x1024 (truncf .bf16 (maximumf (plus i p y) (broadcast S128x1024 (Scalar.ofBits .f32 0x00000000#32 : F .f32))) bitsLt_bf16_f32)
    shapeCasts_S128x1024_S1x1x128x1024

/-- A received tile on its way to the staging buffer: its shape changed and changed back. -/
def recast (y : Vec F S1x1x128x1024 .bf16) : FVec F S1x1x128x1024 .bf16 :=
  shapeCast S1x1x128x1024 (shapeCast S128x1024 y shapeCasts_S1x1x128x1024_S128x1024 : FVec F S128x1024 .bf16) shapeCasts_S128x1024_S1x1x128x1024

/-! ## The program -/

/-- A TensorCore program of this kernel. -/
abbrev Pg (F : FTy → Type) [FloatOps F] (α : Type) : Type _ := Prog (TpuEff nD τ sig (Elt F) Λ₀ .tc) α

section Program

variable (arg0 : Memref sig .tc .vmem S4096x256 .bf16) (harg0 : arg0.IsWhole) (arg1 : Memref sig .tc .vmem S256x2048 .bf16) (harg1 : arg1.IsWhole) (arg2 : Memref sig .tc .hbm S4096x2048 .bf16) (harg2 : arg2.IsWhole) (arg3 : Memref sig .tc .vmem S256x2048 .bf16) (harg3 : arg3.IsWhole) (arg4 : Memref sig .tc .vmem S4x5x128x1024 .bf16) (harg4 : arg4.IsWhole) (arg5 : Memref sig .tc .vmem S4x2x128x1024 .bf16) (harg5 : arg5.IsWhole) (arg6 : DmaSems sig S4x5) (arg7 : DmaSems sig S4x5) (arg8 : DmaSems sig S4x2)

/-- Slot `s` of ring `t` of the receive buffer, as transfers name it. -/
abbrev commM (t : Fin 4) (s : Fin 5) : Memref sig .tc .vmem S128x1024 .bf16 :=
  (arg4.slice (commR t s) (fun _ => rfl)).squeeze S128x1024 squeezes_S1x1x128x1024_S128x1024
/-- Slot `s` of ring `t` of the staging buffer, as transfers name it. -/
abbrev stageM (t : Fin 4) (s : Fin 2) : Memref sig .tc .vmem S128x1024 .bf16 :=
  (arg5.slice (stageR t s) (fun _ => rfl)).squeeze S128x1024 squeezes_S1x1x128x1024_S128x1024
/-- A result tile, as transfers name it. -/
abbrev outM (c : Dev nD) (h : ℕ) (t : Fin 4) : Memref sig .tc .hbm S128x1024 .bf16 :=
  arg2.slice (outR c h t) (fun _ => rfl)
/-- The semaphore of slot `s` of ring `t` in an array of five per ring. -/
abbrev sem5 (a : DmaSems sig S4x5) (t : Fin 4) (s : Fin 5) : DmaSem sig :=
  ((a.slice (Rect.unit (s := S4x5) ![t.val, s.val] S1x1.size (semInb5 t s))).squeeze S_ squeezes_S1x1_S_ : DmaSems sig S_).sem
/-- The semaphore of slot `s` of ring `t` in an array of two per ring. -/
abbrev sem2 (a : DmaSems sig S4x2) (t : Fin 4) (s : Fin 2) : DmaSem sig :=
  ((a.slice (Rect.unit (s := S4x2) ![t.val, s.val] S1x1.size (semInb2 t s))).squeeze S_ squeezes_S1x1_S_ : DmaSems sig S_).sem

include harg4 in
/-- A transfer of a slot of the receive buffer moves whole words. -/
theorem commExact (t : Fin 4) (s : Fin 5) : (commM arg4 t s).view.WordExact :=
  (harg4.wordExact_slice rfl (commR t s) (commWords t s)).reshape _ _
include harg5 in
/-- A transfer of a slot of the staging buffer moves whole words. -/
theorem stageExact (t : Fin 4) (s : Fin 2) : (stageM arg5 t s).view.WordExact :=
  (harg5.wordExact_slice rfl (stageR t s) (stageWords t s)).reshape _ _
include harg2 in
/-- A transfer of a result tile moves whole words. -/
theorem outExact (c : Dev nD) (h : ℕ) (t : Fin 4) : (outM arg2 c h t).view.WordExact :=
  harg2.wordExact_slice rfl (outR c h t) (outWords c h t)

/-- A load of a slot of the receive buffer. -/
def loadComm (t : Fin 4) (s : Fin 5) : Pg F (Vec F S1x1x128x1024 .bf16) :=
  Prog.lift (.load arg4 (commR t s).toLoadRect (View.loadsAt_vmem h_S1x1x128x1024))
/-- A load of a slot of the staging buffer. -/
def loadStage (t : Fin 4) (s : Fin 2) : Pg F (Vec F S1x1x128x1024 .bf16) :=
  Prog.lift (.load arg5 (stageR t s).toLoadRect (View.loadsAt_vmem h_S1x1x128x1024))
/-- A store to a slot of the receive buffer. -/
def storeComm (t : Fin 4) (s : Fin 5) (v : FVec F S1x1x128x1024 .bf16) : Pg F PUnit :=
  Prog.lift (.store arg4 (commR t s) v Finset.univ (View.stores_vmem h_S1x1x128x1024 (harg4.storeExact_slice rfl _ (commPacked t s)) (fun _ => rfl)) (.inl rfl))
/-- A store to a slot of the staging buffer. -/
def storeStage (t : Fin 4) (s : Fin 2) (v : FVec F S1x1x128x1024 .bf16) : Pg F PUnit :=
  Prog.lift (.store arg5 (stageR t s) v Finset.univ (View.stores_vmem h_S1x1x128x1024 (harg5.storeExact_slice rfl _ (stagePacked t s)) (fun _ => rfl)) (.inl rfl))

/-- The start of ring `t`'s hop `h`: slot `h` to the target's slot `h + 1`. -/
def send (c : Dev nD) (h : ℕ) (t : Fin 4) : Pg F PUnit :=
  Prog.lift (.enqueueDma (commM arg4 t (cs h)) (.remote (Dev.tc (dst c t)) (commM arg4 t (cs (h + 1))) (.dma (sem5 arg6 t (cs h)))) (.dma (sem5 arg7 t (cs (h + 1))))
    (commExact arg4 harg4 t (cs h)) (commExact arg4 harg4 t (cs (h + 1))) ⟨⟨rfl, Or.inl rfl⟩, trivial⟩)
/-- The wait for hop `h - 1` to have landed in slot `h`. -/
def waitRecv (h : ℕ) (t : Fin 4) : Pg F PUnit :=
  Prog.lift (.waitDma2 (sem5 arg7 t (cs h)) (commM arg4 t (cs (h + 4))) (commM arg4 t (cs h)) (commExact arg4 harg4 t (cs (h + 4))) (commExact arg4 harg4 t (cs h)))
/-- The wait for hop `h` to have left slot `h`. -/
def waitSend (h : ℕ) (t : Fin 4) : Pg F PUnit :=
  Prog.lift (.waitDma2 (sem5 arg6 t (cs h)) (commM arg4 t (cs (h + 1))) (commM arg4 t (cs h)) (commExact arg4 harg4 t (cs (h + 1))) (commExact arg4 harg4 t (cs h)))
/-- The wait for the store of iteration `h` to have left its staging slot. -/
def waitStore (c : Dev nD) (h : ℕ) (t : Fin 4) : Pg F PUnit :=
  Prog.lift (.waitDma2 (sem2 arg8 t (gs h)) (stageM arg5 t (gs h)) (outM arg2 c h t) (stageExact arg5 harg5 t (gs h)) (outExact arg2 harg2 c h t))
/-- The start of the store of iteration `h`: staging slot `h` to its result tile. -/
def copyOut (c : Dev nD) (h : ℕ) (t : Fin 4) : Pg F PUnit :=
  Prog.lift (.enqueueDma (stageM arg5 t (gs h)) (.here (outM arg2 c h t)) (.dma (sem2 arg8 t (gs h)))
    (stageExact arg5 harg5 t (gs h)) (outExact arg2 harg2 c h t) ⟨Or.inl rfl, trivial⟩)

/-- A step of ring `t` at iteration `h`, first part: the tile lands, and while `h ≤ 15` this device's product is added. -/
def stepAcc (h : ℕ) (t : Fin 4) (p : FVec F S256x1024 .f32) : Pg F PUnit := do
  waitRecv arg4 harg4 arg7 h t
  if h ≤ 15 then do
    let y ← loadComm arg4 t (cs h)
    let _ ← loadComm arg4 t (cs h)
    storeComm arg4 harg4 t (cs h) (if h ≤ 14 then accum (sub t) p y else accumRelu (sub t) p y)
  else pure ⟨⟩

/-- Second part, while `h ≤ 29`: the hop before last has left, and hop `h` starts. -/
def stepSend (c : Dev nD) (h : ℕ) (t : Fin 4) : Pg F PUnit :=
  if h ≤ 29 then do
    if 2 ≤ h then waitSend arg4 harg4 arg6 (h - 2) t else pure ⟨⟩
    send arg4 harg4 arg6 arg7 c h t
  else pure ⟨⟩

/-- Third part, from `h = 15`: the finished tile goes out through the staging buffer. -/
def stepOut (c : Dev nD) (h : ℕ) (t : Fin 4) : Pg F PUnit :=
  if 15 ≤ h then do
    let y ← loadComm arg4 t (cs h)
    if 17 ≤ h then waitStore arg2 harg2 arg5 harg5 arg8 c (h - 2) t else pure ⟨⟩
    let _ ← loadStage arg5 t (gs h)
    storeStage arg5 harg5 t (gs h) (recast y)
    copyOut arg2 harg2 arg5 harg5 arg8 c h t
  else pure ⟨⟩

/-- A step of ring `t` at iteration `h`. -/
def step (c : Dev nD) (h : ℕ) (t : Fin 4) (p : FVec F S256x1024 .f32) : Pg F PUnit := do
  stepAcc arg4 harg4 arg7 h t p
  stepSend arg4 harg4 arg6 arg7 c h t
  stepOut arg2 harg2 arg4 arg5 harg5 arg8 c h t

/-- The rows of `x` at iteration `h` for the even and for the odd rings: iteration 0's block is the device's own. -/
def xOff (c : Dev nD) (h : ℕ) (o : Bool) : Fin 2 → Nat :=
  if h = 0 then k0_off1 c else bif o then k0_off3 c (BitVec.ofNat 32 ((h - 1) % 15)) else k0_off2 c (BitVec.ofNat 32 ((h - 1) % 15))
/-- These rows lie inside `x`. -/
theorem xInb (c : Dev nD) (h : ℕ) (o : Bool) : ∀ a, xOff c h o a + S256x256.size a ≤ S4096x256.size a := by
  unfold xOff
  split
  · exact k0_off1_inb c
  · cases o
    · exact k0_off2_inb c ⟨(h - 1) % 15, Nat.mod_lt _ (by decide)⟩
    · exact k0_off3_inb c ⟨(h - 1) % 15, Nat.mod_lt _ (by decide)⟩
/-- The block of `x` at iteration `h`. -/
abbrev xR (c : Dev nD) (h : ℕ) (o : Bool) : Rect S4096x256 := Rect.unit (s := S4096x256) (xOff c h o) S256x256.size (xInb c h o)
/-- The left half of the columns of `w`. -/
abbrev wR0 : Rect S256x2048 := Rect.unit (s := S256x2048) ![0, 0] S256x1024.size inb_S256x2048_S256x1024_0_0
/-- The right half of the columns of `w`. -/
abbrev wR1 : Rect S256x2048 := Rect.unit (s := S256x2048) ![0, 1024] S256x1024.size inb_S256x2048_S256x1024_0_1024

/-- The products of iteration `h`: the even rings' and the odd rings'. -/
def products (c : Dev nD) (h : ℕ) : Pg F (FVec F S256x1024 .f32 × FVec F S256x1024 .f32) := do
  let x0 : Vec F S256x256 .bf16 ← Prog.lift (.load arg0 (xR c h false).toLoadRect (View.loadsAt_vmem h_S256x256))
  let w0 : Vec F S256x1024 .bf16 ← Prog.lift (.load arg3 wR0.toLoadRect (View.loadsAt_vmem h_S256x1024))
  let x1 : Vec F S256x256 .bf16 ← Prog.lift (.load arg0 (xR c h true).toLoadRect (View.loadsAt_vmem h_S256x256))
  let w1 : Vec F S256x1024 .bf16 ← Prog.lift (.load arg3 wR1.toLoadRect (View.loadsAt_vmem h_S256x1024))
  pure (prod x0 w0, prod x1 w1)

/-- The four steps of iteration `h`, given its products. -/
def steps (c : Dev nD) (h : ℕ) (p0 p1 : FVec F S256x1024 .f32) : Pg F PUnit := do
  step arg2 harg2 arg4 harg4 arg5 harg5 arg6 arg7 arg8 c h 0 p0
  step arg2 harg2 arg4 harg4 arg5 harg5 arg6 arg7 arg8 c h 1 p1
  step arg2 harg2 arg4 harg4 arg5 harg5 arg6 arg7 arg8 c h 2 p0
  step arg2 harg2 arg4 harg4 arg5 harg5 arg6 arg7 arg8 c h 3 p1

/-- Iteration `h`: the products of its block while the reduction lasts (`h ≤ 15`), then the four steps. -/
def iter (c : Dev nD) (h : ℕ) : Pg F PUnit :=
  if h ≤ 15 then do
    let p ← products arg0 arg3 c h
    steps arg2 harg2 arg4 harg4 arg5 harg5 arg6 arg7 arg8 c h p.1 p.2
  else steps arg2 harg2 arg4 harg4 arg5 harg5 arg6 arg7 arg8 c h (constant S256x1024 .f32 0x00000000#32) (constant S256x1024 .f32 0x00000000#32)

/-- `n` iterations from `h` on. -/
def iters (c : Dev nD) : ℕ → ℕ → Pg F PUnit
  | 0, _ => pure ⟨⟩
  | n + 1, h => do
    iter arg0 arg2 harg2 arg3 arg4 harg4 arg5 harg5 arg6 arg7 arg8 c h
    iters c n (h + 1)

/-- `w` to its working copy. -/
def copyW : Pg F PUnit := do
  let v : Vec F S256x2048 .bf16 ← Prog.lift (.load arg1 (Rect.unit (s := S256x2048) ![0, 0] S256x2048.size inb_S256x2048_S256x2048_0_0).toLoadRect (View.loadsAt_vmem h_S256x2048))
  let _ : Vec F S256x2048 .bf16 ← Prog.lift (.load arg3 (Rect.unit (s := S256x2048) ![0, 0] S256x2048.size inb_S256x2048_S256x2048_0_0).toLoadRect (View.loadsAt_vmem h_S256x2048))
  Prog.lift (.store arg3 (Rect.unit (s := S256x2048) ![0, 0] S256x2048.size inb_S256x2048_S256x2048_0_0) (k0_pay1 v) Finset.univ (View.stores_vmem h_S256x2048 (harg3.storeExact_slice rfl _ packedbf16_S256x2048_S256x2048_0_0) (fun _ => rfl)) (.inl rfl))

/-- Ring `t`'s own first tile into slot 0. -/
def seed (t : Fin 4) (p : FVec F S256x1024 .f32) : Pg F PUnit := do
  let _ ← loadComm arg4 t (cs 0)
  storeComm arg4 harg4 t (cs 0) (first (sub t) p)

/-- The handshake with both neighbours on the barrier semaphore. -/
def handshake (c : Dev nD) : Pg F PUnit := do
  semSignalWord (⟨k0_dev1 c, k0_dev1_lt c⟩ : Dev nD) (SemArray.scalar (sig.barrier 0 rfl) : Sems sig S_).sem 1#32
  semSignalWord (⟨k0_dev2 c, k0_dev2_lt c⟩ : Dev nD) (SemArray.scalar (sig.barrier 0 rfl) : Sems sig S_).sem 1#32
  semWaitWord (SemArray.scalar (sig.barrier 0 rfl) : Sems sig S_).sem 2#32

/-- Up to the first four hops. -/
def prologue (c : Dev nD) : Pg F PUnit := do
  copyW arg1 arg3 harg3
  let p ← products arg0 arg3 c 0
  seed arg4 harg4 0 p.1
  seed arg4 harg4 1 p.2
  seed arg4 harg4 2 p.1
  seed arg4 harg4 3 p.2
  handshake c
  send arg4 harg4 arg6 arg7 c 0 0
  send arg4 harg4 arg6 arg7 c 0 1
  send arg4 harg4 arg6 arg7 c 0 2
  send arg4 harg4 arg6 arg7 c 0 3

/-- The waits for ring `t`'s last two hops. -/
def drainSend (t : Fin 4) : Pg F PUnit := do
  waitSend arg4 harg4 arg6 28 t
  waitSend arg4 harg4 arg6 29 t

/-- The waits for the last eight stores. -/
def epilogue (c : Dev nD) : Pg F PUnit := do
  drainSend arg4 harg4 arg6 0
  drainSend arg4 harg4 arg6 1
  drainSend arg4 harg4 arg6 2
  drainSend arg4 harg4 arg6 3
  waitStore arg2 harg2 arg5 harg5 arg8 c 29 0
  waitStore arg2 harg2 arg5 harg5 arg8 c 29 1
  waitStore arg2 harg2 arg5 harg5 arg8 c 29 2
  waitStore arg2 harg2 arg5 harg5 arg8 c 29 3
  waitStore arg2 harg2 arg5 harg5 arg8 c 30 0
  waitStore arg2 harg2 arg5 harg5 arg8 c 30 1
  waitStore arg2 harg2 arg5 harg5 arg8 c 30 2
  waitStore arg2 harg2 arg5 harg5 arg8 c 30 3

/-- The whole body as one loop. -/
def ringBody : Pg F PUnit := do
  let c : Dev nD ← Prog.lift .deviceId
  prologue arg0 arg1 arg3 harg3 arg4 harg4 arg6 arg7 c
  iters arg0 arg2 harg2 arg3 arg4 harg4 arg5 harg5 arg6 arg7 arg8 c 30 1
  epilogue arg2 harg2 arg4 harg4 arg5 harg5 arg6 arg8 c

/-- The printed body IS the loop. -/
theorem body_eq :
    cc0_body (F := F) arg0 harg0 arg1 harg1 arg2 harg2 arg3 harg3 arg4 harg4 arg5 harg5 arg6 arg7 arg8
      = ringBody arg0 arg1 arg2 harg2 arg3 harg3 arg4 harg4 arg5 harg5 arg6 arg7 arg8 := by
  sl_kernel_rfl

end Program

end Cert.RingProof

end
-- ==== Proof.Slots.lean ====
/-
Slots and tiles.

A slot of the receive or of the staging buffer, and a tile of the result, as the elements it holds, with the contents
written as one matrix of 128 rows; what loads, stores and transfers make of such contents.
-/
module

public import proofs.«01_k».proof.Proof.Prog
public import Idealize.ShloMosaic.Lib.ValueLayout

@[expose] public section

set_option maxRecDepth 16384

noncomputable section

namespace Cert.RingProof

open Cert.KernelIdeal Cert.KernelIdeal.Gen
open Idealize.ShloMosaic Idealize.ShloMosaic.TcCoe
open Idealize.SL Idealize.SL.Sem
open Idealize.ShloMosaic.ValueIdx

variable {F : FTy → Type} [FloatOps F]

/-! ## The memrefs of the launch -/

/-- The device's block of `x`, as brought in. -/
abbrev xM : Memref sig .tc .vmem S4096x256 .bf16 := Memref.whole cc0_stg0_0
/-- The device's block of `w`, as brought in. -/
abbrev wM : Memref sig .tc .vmem S256x2048 .bf16 := Memref.whole cc0_stg1_0
/-- The result. -/
abbrev oM : Memref sig .tc .hbm S4096x2048 .bf16 := Memref.whole main_v1
/-- The working copy of `w`. -/
abbrev kM : Memref sig .tc .vmem S256x2048 .bf16 := Memref.whole cc0_scratch0
/-- The receive buffer. -/
abbrev cM : Memref sig .tc .vmem S4x5x128x1024 .bf16 := Memref.whole cc0_scratch1
/-- The staging buffer. -/
abbrev gM : Memref sig .tc .vmem S4x2x128x1024 .bf16 := Memref.whole cc0_scratch2

/-- A matrix of 128 rows. -/
abbrev Tile (F : FTy → Type) [FloatOps F] : Type := Vec F S128x1024 .bf16

/-- A tile under two leading unit axes, as a load of a slot gives it. -/
def unsq (X : Tile F) : Vec F S1x1x128x1024 .bf16 := fun j => X (ix2 (j 2) (j 3))

/-- An element of a tile, in the shape of a slot, has the same row and column. -/
theorem reshape_tile (j : S128x1024.Idx) (h : S128x1024.numel = S1x1x128x1024.numel) :
    Shape.reshapeEquiv h j = ix4 (⟨0, Nat.one_pos⟩ : Fin 1) (⟨0, Nat.one_pos⟩ : Fin 1) (j 0) (j 1) := by
  have hj : j = ix2 (j 0) (j 1) := by funext a; fin_cases a <;> rfl
  conv_lhs => rw [hj]
  exact reshapeEquiv_ix2_11ab h (j 0) (j 1)

omit [FloatOps F] in
/-- Dropping the two unit axes undoes putting them there. -/
theorem cast_unsq {α : Type} (X : S128x1024.Idx → α) (h : S1x1x128x1024.ShapeCasts S128x1024) :
    shapeCast S128x1024 (fun j : S1x1x128x1024.Idx => X (ix2 (j 2) (j 3))) h = X := by
  funext j
  show (fun j : S1x1x128x1024.Idx => X (ix2 (j 2) (j 3))) (Shape.reshapeEquiv h j) = X j
  rw [reshape_tile]
  exact congrArg X (by funext a; fin_cases a <;> rfl)

omit [FloatOps F] in
/-- Putting two unit axes in front of a tile. -/
theorem cast_tile {α : Type} (X : S128x1024.Idx → α) (h : S128x1024.ShapeCasts S1x1x128x1024) :
    shapeCast S1x1x128x1024 X h = fun j : S1x1x128x1024.Idx => X (ix2 (j 2) (j 3)) := by
  funext j
  show X (Shape.reshapeEquiv h j) = _
  refine congrArg X ?_
  refine Shape.reshapeEquiv_eq_of_rowMajor h ?_
  rw [Shape.rowMajor_val_four, Shape.rowMajor_val_two]
  have h0 : (j 0).val = 0 := Nat.lt_one_iff.mp (j 0).isLt
  have h1 : (j 1).val = 0 := Nat.lt_one_iff.mp (j 1).isLt
  show (j 2).val * 1024 + (j 3).val = (((j 0).val * 1 + (j 1).val) * 128 + (j 2).val) * 1024 + (j 3).val
  rw [h0, h1]; omega

/-! ## Slots of the receive buffer -/

/-- The receive buffer's contents showing the tile `X` in every slot. -/
def commBuf (c : Dev nD) (X : Tile F) : Buf (Elt F) ((cM : Memref sig .tc .vmem S4x5x128x1024 .bf16).view.loc (c : Thread nD τ)) :=
  fun i : S4x5x128x1024.Idx => X (ix2 (i 2) (i 3))

/-- Where an element of a tile lies in the receive buffer. -/
theorem comm_emb (t : Fin 4) (s : Fin 5) (j : S128x1024.Idx) : (commM cM t s).view.emb j = (ix4 t s (j 0) (j 1) : S4x5x128x1024.Idx) := by
  show (commR t s).emb (Shape.reshapeEquiv _ j) = _
  rw [reshape_tile]
  funext a
  refine Fin.ext ?_
  show (![t.val, s.val, 0, 0] : Fin 4 → Nat) a + 1 * _ = _
  fin_cases a
  · show t.val + 1 * 0 = t.val; omega
  · show s.val + 1 * 0 = s.val; omega
  · show 0 + 1 * (j 0).val = (j 0).val; omega
  · show 0 + 1 * (j 1).val = (j 1).val; omega

/-- The elements of a slot of the receive buffer are those with its ring and its number. -/
theorem comm_mem (t : Fin 4) (s : Fin 5) (i : S4x5x128x1024.Idx) : i ∈ (commM cM t s).view.set ↔ i 0 = t ∧ i 1 = s := by
  constructor
  · intro h
    obtain ⟨j, -, rfl⟩ := Finset.mem_map.mp h
    rw [comm_emb]; exact ⟨rfl, rfl⟩
  · rintro ⟨h0, h1⟩
    refine Finset.mem_map.mpr ⟨ix2 (i 2) (i 3), Finset.mem_univ _, (comm_emb t s _).trans ?_⟩
    funext a; fin_cases a
    · exact h0.symm
    · exact h1.symm
    · rfl
    · rfl

/-- A load or a store of a slot touches the same elements as a transfer of it. -/
theorem comm_access (t : Fin 4) (s : Fin 5) : ((cM : Memref sig .tc .vmem S4x5x128x1024 .bf16).access (commR t s)).set = (commM cM t s).view.set :=
  (View.set_reshape _ _).symm

omit [FloatOps F] in
/-- A slot of the receive buffer that holds the tile `X` reads as `X`. -/
theorem comm_read (c : Dev nD) (t : Fin 4) (s : Fin 5) (X : S128x1024.Idx → Elt F .bf16) :
    (commM cM t s).view.read (Elt F) (fun i : S4x5x128x1024.Idx => X (ix2 (i 2) (i 3))) = X := by
  funext j
  rw [View.read_apply, comm_emb]
  exact congrArg X (by funext a; fin_cases a <;> rfl)

/-- A load of slot `s` of ring `t` gives the tile under two unit axes. -/
theorem comm_load (c : Dev nD) (t : Fin 4) (s : Fin 5) (X : Tile F) :
    (cM : Memref sig .tc .vmem S4x5x128x1024 .bf16).view.readAt (Elt F) (commR t s).toLoadRect (commBuf c X) = unsq X := by
  funext j
  show X (ix2 _ _) = X (ix2 _ _)
  refine congrArg X ?_
  funext a
  refine Fin.ext ?_
  fin_cases a
  · show 0 + 1 * (j 2).val = (j 2).val; omega
  · show 0 + 1 * (j 3).val = (j 3).val; omega

/-- Once the tile `X` is stored to a slot, the slot holds it. -/
theorem comm_store (c : Dev nD) (t : Fin 4) (s : Fin 5) (X : Tile F) (f : Buf (Elt F) ((cM : Memref sig .tc .vmem S4x5x128x1024 .bf16).view.loc (c : Thread nD τ))) :
    ∀ i ∈ (commM cM t s).view.set, ((cM : Memref sig .tc .vmem S4x5x128x1024 .bf16).access (commR t s)).write (Elt F) f (unsq X) Finset.univ i = commBuf c X i := by
  intro i hi
  rw [← comm_access] at hi
  obtain ⟨j, -, rfl⟩ := Finset.mem_map.mp hi
  rw [View.write_emb_of_mem _ _ (Finset.mem_univ j)]
  show X (ix2 _ _) = X (ix2 _ _)
  refine congrArg X ?_
  funext a
  refine Fin.ext ?_
  fin_cases a
  · show (j 2).val = 0 + 1 * (j 2).val; omega
  · show (j 3).val = 0 + 1 * (j 3).val; omega

/-- Once the tile `X` has landed in a slot, the slot holds it. -/
theorem comm_land (c : Dev nD) (t : Fin 4) (s : Fin 5) (X : Tile F) (f : Buf (Elt F) ((commM cM t s).view.loc (c : Thread nD τ))) :
    ∀ i ∈ (commM cM t s).view.set, (commM cM t s).view.write (Elt F) f X Finset.univ i = commBuf c X i := by
  intro i hi
  obtain ⟨j, -, rfl⟩ := Finset.mem_map.mp hi
  rw [View.write_emb_of_mem _ _ (Finset.mem_univ j), comm_emb]
  exact congrArg X (by funext a; fin_cases a <;> rfl)

/-- Any contents show some tile in a slot. -/
theorem comm_any (c : Dev nD) (t : Fin 4) (s : Fin 5) (f : Buf (Elt F) ((cM : Memref sig .tc .vmem S4x5x128x1024 .bf16).view.loc (c : Thread nD τ))) :
    ∃ X : Tile F, ∀ i ∈ (commM cM t s).view.set, f i = commBuf c X i := by
  refine ⟨fun j => f (ix4 t s (j 0) (j 1) : S4x5x128x1024.Idx), fun i hi => ?_⟩
  obtain ⟨h0, h1⟩ := (comm_mem t s i).mp hi
  refine congrArg f ?_
  funext a; fin_cases a
  · exact h0
  · exact h1
  · rfl
  · rfl

/-! ## Slots of the staging buffer -/

/-- The staging buffer's contents showing the tile `X` in every slot. -/
def stageBuf (c : Dev nD) (X : Tile F) : Buf (Elt F) ((gM : Memref sig .tc .vmem S4x2x128x1024 .bf16).view.loc (c : Thread nD τ)) :=
  fun i : S4x2x128x1024.Idx => X (ix2 (i 2) (i 3))

/-- Where an element of a tile lies in the staging buffer. -/
theorem stage_emb (t : Fin 4) (s : Fin 2) (j : S128x1024.Idx) : (stageM gM t s).view.emb j = (ix4 t s (j 0) (j 1) : S4x2x128x1024.Idx) := by
  show (stageR t s).emb (Shape.reshapeEquiv _ j) = _
  rw [reshape_tile]
  funext a
  refine Fin.ext ?_
  show (![t.val, s.val, 0, 0] : Fin 4 → Nat) a + 1 * _ = _
  fin_cases a
  · show t.val + 1 * 0 = t.val; omega
  · show s.val + 1 * 0 = s.val; omega
  · show 0 + 1 * (j 0).val = (j 0).val; omega
  · show 0 + 1 * (j 1).val = (j 1).val; omega

/-- The elements of a slot of the staging buffer are those with its ring and its number. -/
theorem stage_mem (t : Fin 4) (s : Fin 2) (i : S4x2x128x1024.Idx) : i ∈ (stageM gM t s).view.set ↔ i 0 = t ∧ i 1 = s := by
  constructor
  · intro h
    obtain ⟨j, -, rfl⟩ := Finset.mem_map.mp h
    rw [stage_emb]; exact ⟨rfl, rfl⟩
  · rintro ⟨h0, h1⟩
    refine Finset.mem_map.mpr ⟨ix2 (i 2) (i 3), Finset.mem_univ _, (stage_emb t s _).trans ?_⟩
    funext a; fin_cases a
    · exact h0.symm
    · exact h1.symm
    · rfl
    · rfl

/-- A load or a store of a slot touches the same elements as a transfer of it. -/
theorem stage_access (t : Fin 4) (s : Fin 2) : ((gM : Memref sig .tc .vmem S4x2x128x1024 .bf16).access (stageR t s)).set = (stageM gM t s).view.set :=
  (View.set_reshape _ _).symm

/-- A slot of the staging buffer that holds the tile `X` reads as `X`. -/
theorem stage_read (c : Dev nD) (t : Fin 4) (s : Fin 2) (X : Tile F) : (stageM gM t s).view.read (Elt F) (stageBuf c X) = X := by
  funext j
  rw [View.read_apply, stage_emb]
  exact congrArg X (by funext a; fin_cases a <;> rfl)

/-- Once the tile `X` is stored to a slot, the slot holds it. -/
theorem stage_store (c : Dev nD) (t : Fin 4) (s : Fin 2) (X : Tile F) (f : Buf (Elt F) ((gM : Memref sig .tc .vmem S4x2x128x1024 .bf16).view.loc (c : Thread nD τ))) :
    ∀ i ∈ (stageM gM t s).view.set, ((gM : Memref sig .tc .vmem S4x2x128x1024 .bf16).access (stageR t s)).write (Elt F) f (unsq X) Finset.univ i = stageBuf c X i := by
  intro i hi
  rw [← stage_access] at hi
  obtain ⟨j, -, rfl⟩ := Finset.mem_map.mp hi
  rw [View.write_emb_of_mem _ _ (Finset.mem_univ j)]
  show X (ix2 _ _) = X (ix2 _ _)
  refine congrArg X ?_
  funext a
  refine Fin.ext ?_
  fin_cases a
  · show (j 2).val = 0 + 1 * (j 2).val; omega
  · show (j 3).val = 0 + 1 * (j 3).val; omega

/-- Any contents show some tile in a slot. -/
theorem stage_any (c : Dev nD) (t : Fin 4) (s : Fin 2) (f : Buf (Elt F) ((gM : Memref sig .tc .vmem S4x2x128x1024 .bf16).view.loc (c : Thread nD τ))) :
    ∃ X : Tile F, ∀ i ∈ (stageM gM t s).view.set, f i = stageBuf c X i := by
  refine ⟨fun j => f (ix4 t s (j 0) (j 1) : S4x2x128x1024.Idx), fun i hi => ?_⟩
  obtain ⟨h0, h1⟩ := (stage_mem t s i).mp hi
  refine congrArg f ?_
  funext a; fin_cases a
  · exact h0
  · exact h1
  · rfl
  · rfl

/-! ## Tiles of the result -/

/-- Once a tile of the result is the tile `X`, the result read there is `X`. -/
theorem out_land (c : Dev nD) (h : ℕ) (t : Fin 4) (X : Tile F) (f : Buf (Elt F) ((outM oM c h t).view.loc (c : Thread nD τ))) :
    (outM oM c h t).view.read (Elt F) ((outM oM c h t).view.write (Elt F) f X Finset.univ) = X :=
  View.read_write_univ _ _

end Cert.RingProof

end
-- ==== Proof.Proto.lean ====
/-
The protocol.

Every hop of the four rings has a position `q = 4 h + t` (hop `h` of ring `t`), in the order in which a device starts
its hops. Position `q` is round `q / 20` of a send cell on the sender and of a receive cell on the target; a store of
iteration `h` of ring `t` has the position `4 h + t` too, a round of a store cell. This file gives the cells, what each
round hands over, what a device owes at a position, and the levels by which the waits are ordered.
-/
module

public import proofs.«01_k».proof.Proof.Slots
public import proofs.«01_k».proof.Proof.Gen.KernelIdeal.Launch
public import Idealize.ShloMosaic.Lib.Pipeline.Launch
public import Idealize.ShloMosaic.Lib.Pipeline.Kit
public import Idealize.SL.BI.BigOpNat

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra: the input copies' part and the rings' (duties `Bool`) -/

/-- The rings' part of the algebra: rounds of cells, with at most two duties each. -/
abbrev UB : Type := URounds (GSem nD τ sig) Bool
/-- Both parts: that of the input copies and the rings'. -/
abbrev UU : Type := UR sig nD τ × UB

local notation "𝕄" => MT nD τ sig ℕ (Elt F) ℕ UU ℕ

/-- The input copies' part within the whole. -/
abbrev EP : Emb (UR sig nD τ) (MT nD τ sig ℕ (Elt F) ℕ UU ℕ) := embL
/-- The rings' part within the whole. -/
abbrev ER : Emb UB (MT nD τ sig ℕ (Elt F) ℕ UU ℕ) := embR

/-! ## Positions and neighbours -/

/-- The ring of a position. -/
abbrev tq (q : ℕ) : Fin 4 := ⟨q % 4, Nat.mod_lt _ (by decide)⟩

/-- The device whose ring-`t` hops arrive at `c`. -/
def src (c : Dev nD) (t : Fin 4) : Dev nD := dst c ⟨(t.val + 1) % 4, Nat.mod_lt _ (by decide)⟩

/-- One hop along a ring and one along a ring of the other direction lead back. -/
theorem dst_back : ∀ (c : Dev nD) (t t' : Fin 4), t.val % 2 ≠ t'.val % 2 → dst (dst c t) t' = c := by decide +kernel
/-- Rings of the same direction send to the same device. -/
theorem dst_par : ∀ (c : Dev nD) (t t' : Fin 4), t.val % 2 = t'.val % 2 → dst c t = dst c t' := by decide +kernel
/-- The two neighbours of a device are different devices. -/
theorem dst_ne : ∀ (c : Dev nD), dst c 0 ≠ dst c 1 := by decide +kernel
/-- The device whose hops arrive at the target of `c` is `c`. -/
theorem src_dst (c : Dev nD) (t : Fin 4) : src (dst c t) t = c := dst_back _ _ _ (by have := t.isLt; show _ ≠ (t.val + 1) % 4 % 2; omega)
/-- The target of the device whose hops arrive at `c` is `c`. -/
theorem dst_src (c : Dev nD) (t : Fin 4) : dst (src c t) t = c := dst_back _ _ _ (by have := t.isLt; show (t.val + 1) % 4 % 2 ≠ _; omega)

/-! ## The cells -/

/-- The runtime's barrier semaphore. -/
abbrev barS : Sem sig := (SemArray.scalar (sig.barrier 0 rfl) : Sems sig S_).sem
/-- The sender's semaphore of position `q`. -/
abbrev sendS (q : ℕ) : DmaSem sig := sem5 cc0_scratch3 (tq q) (cs (q / 4))
/-- The target's semaphore of position `q`. -/
abbrev recvS (q : ℕ) : DmaSem sig := sem5 cc0_scratch4 (tq q) (cs (q / 4 + 1))
/-- The store's semaphore of position `q`. -/
abbrev storeS (q : ℕ) : DmaSem sig := sem2 cc0_scratch5 (tq q) (gs (q / 4))

/-- The barrier cell of device `c`. -/
abbrev barCell (c : Dev nD) : GSem nD τ sig := ((c : Thread nD τ), .reg barS)
/-- The cell of device `c` that the departure of position `q` credits. -/
abbrev sendCell (c : Dev nD) (q : ℕ) : GSem nD τ sig := ((c : Thread nD τ), .dma (sendS q))
/-- The cell of device `c` that the arrival of position `q` credits. -/
abbrev recvCell (c : Dev nD) (q : ℕ) : GSem nD τ sig := ((c : Thread nD τ), .dma (recvS q))
/-- The cell of device `c` that the store of position `q` credits. -/
abbrev storeCell (c : Dev nD) (q : ℕ) : GSem nD τ sig := ((c : Thread nD τ), .dma (storeS q))

/-- The number of a send semaphore. -/
theorem send_val : ∀ (t : Fin 4) (s : Fin 5), (sem5 cc0_scratch3 t s).val = 2 + 5 * t.val + s.val := by decide
/-- The number of a receive semaphore. -/
theorem recv_val : ∀ (t : Fin 4) (s : Fin 5), (sem5 cc0_scratch4 t s).val = 22 + 5 * t.val + s.val := by decide
/-- The number of a store semaphore. -/
theorem store_val : ∀ (t : Fin 4) (s : Fin 2), (sem2 cc0_scratch5 t s).val = 42 + 2 * t.val + s.val := by decide

/-- A device's cells: the barrier cell, then the 48 transfer cells. -/
abbrev csem (k : Fin 49) : SemLoc sig := if k.val = 0 then .reg barS else .dma (⟨k.val + 1, by have := k.isLt; show _ < 50; omega⟩ : DmaSem sig)
/-- Cell `k` of device `c`. -/
abbrev kcell (ck : Dev nD × Fin 49) : GSem nD τ sig := ((ck.1 : Thread nD τ), csem ck.2)

/-- Every transfer semaphore but the two of the inputs is among the cells. -/
theorem csem_dma (n : DmaSem sig) (h : 2 ≤ n.val) : ∃ k : Fin 49, csem k = .dma n := by
  have hn : n.val < 50 := n.isLt
  refine ⟨⟨n.val - 1, by omega⟩, ?_⟩
  unfold csem
  rw [if_neg (show ¬ (n.val - 1 = 0) by omega)]
  exact congrArg SemLoc.dma (Fin.ext (show n.val - 1 + 1 = n.val by omega))
/-- The first cell is the barrier's. -/
theorem csem_bar : csem 0 = .reg barS := rfl
/-- Every send semaphore is among the cells. -/
theorem csem_send (q : ℕ) : ∃ k : Fin 49, csem k = .dma (sendS q) := csem_dma _ (by rw [send_val]; omega)
/-- Every receive semaphore is among the cells. -/
theorem csem_recv (q : ℕ) : ∃ k : Fin 49, csem k = .dma (recvS q) := csem_dma _ (by rw [recv_val]; omega)
/-- Every store semaphore is among the cells. -/
theorem csem_store (q : ℕ) : ∃ k : Fin 49, csem k = .dma (storeS q) := csem_dma _ (by rw [store_val]; omega)

/-! ## What a round of a cell is for -/

/-- The barrier handshake, the departure of a hop, its arrival, a store, or nothing. -/
inductive Use where
  | bar | send (q : ℕ) | recv (q : ℕ) | store (q : ℕ) | idle

/-- What round `r` of a semaphore is for. -/
def use (sm : SemLoc sig) (r : ℕ) : Use :=
  match sm with
  | .reg _ => if r = 0 then .bar else .idle
  | .dma n =>
    if n.val < 2 then .idle
    else if n.val < 22 then (if r < 6 then .send (20 * r + 4 * ((n.val - 2) % 5) + (n.val - 2) / 5) else .idle)
    else if n.val < 42 then (if r < 6 then .recv (20 * r + 4 * (((n.val - 22) % 5 + 4) % 5) + (n.val - 22) / 5) else .idle)
    else (if r < 8 then .store (60 + 8 * r + 4 * (((n.val - 42) % 2 + 1) % 2) + (n.val - 42) / 2) else .idle)

/-- Round 0 of the barrier is for the handshake. -/
theorem use_bar : use (.reg barS) 0 = .bar := rfl
/-- Round `q / 20` of the send semaphore of position `q` is for its departure. -/
theorem use_send (q : ℕ) (h : q < 120) : use (.dma (sendS q)) (q / 20) = .send q := by
  have hv : (sendS q).val = 2 + 5 * (q % 4) + q / 4 % 5 := send_val _ _
  simp only [use, hv]
  have e0 : q / 20 = q / 4 / 5 := by rw [Nat.div_div_eq_div_mul]
  have e1 : (2 + 5 * (q % 4) + q / 4 % 5 - 2) / 5 = q % 4 := by omega
  have e2 : (2 + 5 * (q % 4) + q / 4 % 5 - 2) % 5 = q / 4 % 5 := by omega
  rw [if_neg (by omega), if_pos (by omega), if_pos (by omega), e1, e2, e0]
  congr 1; omega
/-- Round `q / 20` of the receive semaphore of position `q` is for its arrival. -/
theorem use_recv (q : ℕ) (h : q < 120) : use (.dma (recvS q)) (q / 20) = .recv q := by
  have hv : (recvS q).val = 22 + 5 * (q % 4) + (q / 4 + 1) % 5 := recv_val _ _
  simp only [use, hv]
  have e0 : q / 20 = q / 4 / 5 := by rw [Nat.div_div_eq_div_mul]
  have e1 : (22 + 5 * (q % 4) + (q / 4 + 1) % 5 - 22) / 5 = q % 4 := by omega
  have e2 : (22 + 5 * (q % 4) + (q / 4 + 1) % 5 - 22) % 5 = (q / 4 + 1) % 5 := by omega
  have e3 : ((q / 4 + 1) % 5 + 4) % 5 = q / 4 % 5 := by omega
  rw [if_neg (by omega), if_neg (by omega), if_pos (by omega), if_pos (by omega), e1, e2, e3, e0]
  congr 1; omega
/-- Round `(q - 60) / 8` of the store semaphore of position `q` is for its store. -/
theorem use_store (q : ℕ) (h0 : 60 ≤ q) (h : q < 124) : use (.dma (storeS q)) ((q - 60) / 8) = .store q := by
  have hv : (storeS q).val = 42 + 2 * (q % 4) + q / 4 % 2 := store_val _ _
  simp only [use, hv]
  have e0 : (q - 60) / 8 = (q / 4 - 15) / 2 := by
    rw [show 8 = 4 * 2 by rfl, ← Nat.div_div_eq_div_mul]; congr 1; omega
  have e1 : (42 + 2 * (q % 4) + q / 4 % 2 - 42) / 2 = q % 4 := by omega
  have e2 : (42 + 2 * (q % 4) + q / 4 % 2 - 42) % 2 = q / 4 % 2 := by omega
  rw [if_neg (by omega), if_neg (by omega), if_neg (by omega), if_pos (by omega), e1, e2, e0]
  congr 1; omega
/-- No semaphore uses a round from 8 on. -/
theorem use_late (sm : SemLoc sig) (r : ℕ) (h : 8 ≤ r) : use sm r = .idle := by
  unfold use
  split
  · rw [if_neg (by omega)]
  · repeat' split
    all_goals first | rfl | omega
/-- No send semaphore uses a round from 6 on. -/
theorem use_send_late (q r : ℕ) (h : 6 ≤ r) : use (.dma (sendS q)) r = .idle := by
  have hv : (sendS q).val = 2 + 5 * (q % 4) + q / 4 % 5 := send_val _ _
  simp only [use, hv]
  rw [if_neg (by omega), if_pos (by omega), if_neg (by omega)]
/-- No receive semaphore uses a round from 6 on. -/
theorem use_recv_late (q r : ℕ) (h : 6 ≤ r) : use (.dma (recvS q)) r = .idle := by
  have hv : (recvS q).val = 22 + 5 * (q % 4) + (q / 4 + 1) % 5 := recv_val _ _
  simp only [use, hv]
  rw [if_neg (by omega), if_neg (by omega), if_pos (by omega), if_neg (by omega)]

/-- The same send semaphore serves positions twenty apart. -/
theorem sendS_add (q : ℕ) : sendS (q + 20) = sendS q := Fin.ext (by rw [send_val, send_val]; show _ + 5 * ((q + 20) % 4) + (q + 20) / 4 % 5 = _ + 5 * (q % 4) + q / 4 % 5; omega)
/-- The same receive semaphore serves positions twenty apart. -/
theorem recvS_add (q : ℕ) : recvS (q + 20) = recvS q := Fin.ext (by rw [recv_val, recv_val]; show _ + 5 * ((q + 20) % 4) + ((q + 20) / 4 + 1) % 5 = _ + 5 * (q % 4) + (q / 4 + 1) % 5; omega)
/-- The same store semaphore serves positions eight apart. -/
theorem storeS_add (q : ℕ) : storeS (q + 8) = storeS q := Fin.ext (by rw [store_val, store_val]; show _ + 2 * ((q + 8) % 4) + (q + 8) / 4 % 2 = _ + 2 * (q % 4) + q / 4 % 2; omega)

/-- What a transfer of one tile credits. -/
def N : ℕ := (commM cM 0 0).view.dmaCredit
/-- A transfer credits something. -/
theorem N_pos : 0 < N := View.dmaCredit_pos _ (by decide)
/-- A transfer of a slot of the receive buffer credits this. -/
theorem comm_credit (t : Fin 4) (s : Fin 5) : (commM cM t s).view.dmaCredit = N := rfl
/-- A transfer of a result tile credits this. -/
theorem out_credit (c : Dev nD) (h : ℕ) (t : Fin 4) : (outM oM c h t).view.dmaCredit = N := rfl
/-- A transfer of a slot of the staging buffer credits this. -/
theorem stage_credit (t : Fin 4) (s : Fin 2) : (stageM gM t s).view.dmaCredit = N := rfl

/-! ## Points-to facts of slots and tiles -/

/-- Device `c` holds share `π` of slot `s` of ring `t` of its receive buffer, the slot holding the tile `X`. -/
def commAt (c : Dev nD) (t : Fin 4) (s : Fin 5) (π : PosShare TreeShare) (X : Tile F) : sProp 𝕄 :=
  (commM cM t s).view.loc (c : Thread nD τ) ↦[(commM cM t s).view.set]{π} (commBuf c X)
/-- The same for slot `s` of ring `t` of its staging buffer. -/
def stageAt (c : Dev nD) (t : Fin 4) (s : Fin 2) (X : Tile F) : sProp 𝕄 :=
  (stageM gM t s).view.loc (c : Thread nD τ) ↦[(stageM gM t s).view.set]{fullShare} (stageBuf c X)
/-- Device `c` holds the tile of the result it stores at position `q`, with the contents `R`. -/
def tileAt (c : Dev nD) (q : ℕ) (R : Buf (Elt F) ((oM : Memref sig .tc .hbm S4096x2048 .bf16).view.loc (c : Thread nD τ))) : sProp 𝕄 :=
  (outM oM c (q / 4) (tq q)).view.loc (c : Thread nD τ) ↦[(outM oM c (q / 4) (tq q)).view.set]{fullShare} R

/-- A slot of the receive buffer may be kept in an invariant. -/
instance commAt_storable (c : Dev nD) (t s π) (X : Tile F) : BI.Storable (upEmb : UEmb _ 𝕄) (commAt c t s π X) := by unfold commAt; infer_instance
/-- A slot of the staging buffer may be kept in an invariant. -/
instance stageAt_storable (c : Dev nD) (t s) (X : Tile F) : BI.Storable (upEmb : UEmb _ 𝕄) (stageAt c t s X) := by unfold stageAt; infer_instance
/-- A result tile may be kept in an invariant. -/
instance tileAt_storable (c : Dev nD) (q R) : BI.Storable (upEmb : UEmb _ 𝕄) (tileAt (F := F) c q R) := by unfold tileAt; infer_instance

/-- What a hop of position `q` from `c` writes to: the target's slot, whatever it holds, and that the target's cell has
    reached the hop's round. -/
def room (c : Dev nD) (q : ℕ) : sProp 𝕄 :=
  iprop((∃ X : Tile F, commAt (dst c (tq q)) (tq q) (cs (q / 4 + 1)) fullShare X) ∗ reached ER (recvCell (dst c (tq q)) q) (q / 20))

/-- Room for a hop may be kept in an invariant. -/
instance room_storable (c : Dev nD) (q : ℕ) : BI.Storable (upEmb : UEmb _ 𝕄) (room (F := F) c q) := by unfold room; infer_instance

/-- The room an arrival of position `q` at `c` brings along, for the hop of position `q + 7`. -/
def grant (c : Dev nD) (q : ℕ) : sProp 𝕄 := if 9 ≤ q ∧ q ≤ 112 then room (F := F) c (q + 7) else iprop(emp)

/-- What an arrival grants may be kept in an invariant. -/
instance grant_storable (c : Dev nD) (q : ℕ) : BI.Storable (upEmb : UEmb _ 𝕄) (grant (F := F) c q) := by unfold grant; split <;> infer_instance

/-- What a neighbour's signal brings: the room for the first four hops of two rings. -/
def barPay (c : Dev nD) (b : Bool) : sProp 𝕄 := bigSep (Finset.Ico 0 8) fun i => room (F := F) c (2 * i + b.toNat)

/-- What a signal brings may be kept in an invariant. -/
instance barPay_storable (c : Dev nD) (b : Bool) : BI.Storable (upEmb : UEmb _ 𝕄) (barPay (F := F) c b) := by unfold barPay; infer_instance

/-! ## The schedule -/

section Sched

variable (Y : Dev nD → ℕ → Tile F)
variable (R : (c : Dev nD) → Buf (Elt F) ((oM : Memref sig .tc .hbm S4096x2048 .bf16).view.loc (c : Thread nD τ)))

/-- `Y c q` is the tile that device `c` sends (or stores) at position `q`, `R c` the whole result on `c`. -/
def ringRd : Rounds.Schedule (GSem nD τ sig) Bool 𝕄 where
  duties g r := if g.1.2 = .tc then (match use g.2 r with | .bar => Finset.univ | .idle => ∅ | _ => {false}) else ∅
  unitless _ := False
  amount g _ _ := match g.2 with | .reg _ => 1 | .dma _ => N
  payload g r d := match use g.2 r with
    | .bar => barPay g.1.1 d
    | .send q => commAt g.1.1 (tq q) (cs (q / 4)) fullShare.left (Y g.1.1 q)
    | .recv q => iprop(commAt g.1.1 (tq q) (cs (q / 4 + 1)) fullShare (Y (src g.1.1 (tq q)) q) ∗ grant g.1.1 q)
    | .store q => iprop(tileAt g.1.1 q (R g.1.1) ∗ stageAt g.1.1 (tq q) (gs (q / 4)) (Y g.1.1 q))
    | .idle => iprop(emp)
  amount_pos g _ _ _ := by
    split
    · exact Nat.one_pos
    · exact N_pos

/-- Whatever a round hands over may be kept in an invariant. -/
instance ringRd_payload_storable (g : GSem nD τ sig) (r : ℕ) (d : Bool) :
    BI.Storable (upEmb : UEmb _ 𝕄) ((ringRd Y R).payload g r d) := by
  show BI.Storable upEmb (match use g.2 r with
    | .bar => barPay g.1.1 d
    | .send q => commAt g.1.1 (tq q) (cs (q / 4)) fullShare.left (Y g.1.1 q)
    | .recv q => iprop(commAt g.1.1 (tq q) (cs (q / 4 + 1)) fullShare (Y (src g.1.1 (tq q)) q) ∗ grant g.1.1 q)
    | .store q => iprop(tileAt g.1.1 q (R g.1.1) ∗ stageAt g.1.1 (tq q) (gs (q / 4)) (Y g.1.1 q))
    | .idle => iprop(emp) : sProp 𝕄)
  split <;> infer_instance

variable (c : Dev nD) (q : ℕ)

/-- The barrier has two duties, one for each neighbour. -/
theorem duties_bar : (ringRd Y R).duties (barCell c) 0 = Finset.univ := rfl
/-- A departure is one duty. -/
theorem duties_send (h : q < 120) : (ringRd Y R).duties (sendCell c q) (q / 20) = {false} := by
  dsimp only [ringRd]; rw [if_pos rfl, use_send q h]
/-- An arrival is one duty. -/
theorem duties_recv (h : q < 120) : (ringRd Y R).duties (recvCell c q) (q / 20) = {false} := by
  dsimp only [ringRd]; rw [if_pos rfl, use_recv q h]
/-- A store is one duty. -/
theorem duties_store (h0 : 60 ≤ q) (h : q < 124) : (ringRd Y R).duties (storeCell c q) ((q - 60) / 8) = {false} := by
  dsimp only [ringRd]; rw [if_pos rfl, use_store q h0 h]
/-- A round not in use has no duty. -/
theorem duties_idle (g : GSem nD τ sig) (r : ℕ) (h : use g.2 r = .idle) : (ringRd Y R).duties g r = ∅ := by
  dsimp only [ringRd]; rw [h]; split <;> rfl

/-- A signal of the barrier adds one. -/
theorem amount_bar (r : ℕ) (d : Bool) : (ringRd Y R).amount (barCell c) r d = 1 := rfl
/-- A transfer adds a tile's credit. -/
theorem amount_dma (n : DmaSem sig) (r : ℕ) (d : Bool) : (ringRd Y R).amount ((c : Thread nD τ), .dma n) r d = N := rfl

/-- The barrier's round is complete at two. -/
theorem expect_bar : (ringRd Y R).expect (barCell c) 0 = 2 := by
  unfold Schedule.expect Schedule.amountOf
  rw [duties_bar, Finset.sum_congr rfl fun d _ => amount_bar Y R c 0 d, Finset.sum_const, Finset.card_univ, Fintype.card_bool, smul_eq_mul]
/-- A transfer's round is complete at a tile's credit. -/
theorem expect_dma (n : DmaSem sig) (r : ℕ) (h : (ringRd Y R).duties ((c : Thread nD τ), .dma n) r = {false}) :
    (ringRd Y R).expect ((c : Thread nD τ), .dma n) r = N := by
  unfold Schedule.expect Schedule.amountOf; rw [h, Finset.sum_singleton, amount_dma]

/-- A signal hands over the room for the neighbour's first hops. -/
theorem payload_bar (d : Bool) : (ringRd Y R).payload (barCell c) 0 d = barPay c d := rfl
/-- A departure hands back the half of the source slot that was lent to the copy. -/
theorem payload_send (h : q < 120) (d : Bool) :
    (ringRd Y R).payload (sendCell c q) (q / 20) d = commAt c (tq q) (cs (q / 4)) fullShare.left (Y c q) := by
  dsimp only [ringRd]; rw [use_send q h]
/-- An arrival hands over the slot with what the sender sent, and what the sender grants. -/
theorem payload_recv (h : q < 120) (d : Bool) :
    (ringRd Y R).payload (recvCell c q) (q / 20) d = iprop(commAt c (tq q) (cs (q / 4 + 1)) fullShare (Y (src c (tq q)) q) ∗ grant c q) := by
  dsimp only [ringRd]; rw [use_recv q h]
/-- A store hands over the result tile written and the staging slot. -/
theorem payload_store (h0 : 60 ≤ q) (h : q < 124) (d : Bool) :
    (ringRd Y R).payload (storeCell c q) ((q - 60) / 8) d = iprop(tileAt c q (R c) ∗ stageAt c (tq q) (gs (q / 4)) (Y c q)) := by
  dsimp only [ringRd]; rw [use_store q h0 h]

/-- The barrier's round hands over what both signals bring. -/
theorem rest_bar : bigSep ((ringRd Y R).duties (barCell c) 0 \ ∅) (fun d => (ringRd Y R).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
/-- A transfer's round hands over its one payload. -/
theorem rest_one (n : DmaSem sig) (r : ℕ) (h : (ringRd Y R).duties ((c : Thread nD τ), .dma n) r = {false}) :
    bigSep ((ringRd Y R).duties ((c : Thread nD τ), .dma n) r \ ∅) (fun d => (ringRd Y R).payload ((c : Thread nD τ), .dma n) r d)
      = (ringRd Y R).payload ((c : Thread nD τ), .dma n) r false := by
  rw [Finset.sdiff_empty, h, bigSep_singleton]

end Sched

/-! ## What a device owes; the levels -/

/-- The hops that device `c` still owes at position `p`: the credit of each on its target's cell. -/
def sends (c : Dev nD) (p : ℕ) : CellTallies nD τ sig ℕ :=
  ∑ q ∈ Finset.Ico p 120, tallyAt (recvCell (dst c (tq q)) q) (q / 20) N

/-- After the first signal: all hops and the other signal. -/
def O₁ (c : Dev nD) : CellTallies nD τ sig ℕ := sends c 0 + tallyAt (barCell (dst c 0)) 0 1
/-- What device `c` owes at launch: all hops and the two signals. -/
def O₀ (c : Dev nD) : CellTallies nD τ sig ℕ := O₁ c + tallyAt (barCell (dst c 1)) 0 1

/-- At each position one hop less is owed. -/
theorem sends_step (c : Dev nD) (p : ℕ) (h : p < 120) : sends c p = sends c (p + 1) + tallyAt (recvCell (dst c (tq p)) p) (p / 20) N := by
  unfold sends
  rw [show Finset.Ico p 120 = insert p (Finset.Ico (p + 1) 120) by ext x; simp only [Finset.mem_Ico, Finset.mem_insert]; omega,
    Finset.sum_insert (by rw [Finset.mem_Ico]; omega), add_comm]
/-- After the last hop none is owed. -/
theorem sends_end (c : Dev nD) (p : ℕ) (h : 120 ≤ p) : sends c p = 0 := by
  unfold sends; rw [Finset.Ico_eq_empty (by omega), Finset.sum_empty]

/-- The rounds that have a level. -/
def L (g : GSem nD τ sig) : Finset ℕ := if g.1.2 = .tc then Finset.range 8 else ∅
/-- The barrier at 1, the arrival of position `q` at `q + 2`, all else at 0. -/
def lv (g : GSem nD τ sig) (r : ℕ) : ℕ := match use g.2 r with | .bar => 1 | .recv q => q + 2 | _ => 0

/-- Cells of other cores have none. -/
theorem L_of_ne (g : GSem nD τ sig) (h : g.1.2 ≠ .tc) : L g = ∅ := if_neg h
/-- Every round below 8 has a level. -/
theorem mem_L (c : Dev nD) (sm : SemLoc sig) (r : ℕ) (h : r < 8) : r ∈ L ((c : Thread nD τ), sm) := by
  unfold L; rw [if_pos rfl]; exact Finset.mem_range.mpr h

/-- The barrier is at level 1. -/
theorem lv_bar (c : Dev nD) : lv (barCell c) 0 = 1 := rfl
/-- The arrival of position `q` is at level `q + 2`. -/
theorem lv_recv (c : Dev nD) (q : ℕ) (h : q < 120) : lv (recvCell c q) (q / 20) = q + 2 := by unfold lv; rw [use_recv q h]
/-- Departures are at level 0. -/
theorem lv_send (c : Dev nD) (q : ℕ) (h : q < 120) : lv (sendCell c q) (q / 20) = 0 := by unfold lv; rw [use_send q h]
/-- Stores are at level 0. -/
theorem lv_store (c : Dev nD) (q : ℕ) (h0 : 60 ≤ q) (h : q < 124) : lv (storeCell c q) ((q - 60) / 8) = 0 := by unfold lv; rw [use_store q h0 h]

/-- A single credit is owed at its own cell and round only. -/
theorem tally_pos {g g' : GSem nD τ sig} {r r' n : ℕ} (h : 0 < (tallyAt g r n : CellTallies nD τ sig ℕ) g' r') : g' = g ∧ r' = r := by
  rw [tallyAt_apply] at h
  by_contra hn
  rw [if_neg hn] at h
  exact Nat.lt_irrefl 0 h

/-- The hops owed are owed at receive cells of the positions to come. -/
theorem sends_pos {c : Dev nD} {p : ℕ} {g : GSem nD τ sig} {r : ℕ} (h : 0 < sends c p g r) :
    ∃ q, p ≤ q ∧ q < 120 ∧ g = recvCell (dst c (tq q)) q ∧ r = q / 20 := by
  unfold sends at h
  rw [Finset.sum_apply, Finsupp.finset_sum_apply] at h
  obtain ⟨q, hq, hpos⟩ := Finset.exists_ne_zero_of_sum_ne_zero (Nat.pos_iff_ne_zero.mp h)
  obtain ⟨h1, h2⟩ := tally_pos (Nat.pos_iff_ne_zero.mpr hpos)
  exact ⟨q, (Finset.mem_Ico.mp hq).1, (Finset.mem_Ico.mp hq).2, h1, h2⟩

/-- What is owed at launch is owed at receive cells and at the neighbours' barrier cells. -/
theorem O₀_pos {c : Dev nD} {g : GSem nD τ sig} {r : ℕ} (h : 0 < O₀ c g r) :
    (∃ q, q < 120 ∧ g = recvCell (dst c (tq q)) q ∧ r = q / 20) ∨ (g = barCell (dst c 0) ∧ r = 0) ∨ (g = barCell (dst c 1) ∧ r = 0) := by
  unfold O₀ O₁ at h
  rw [Pi.add_apply, Finsupp.add_apply, Pi.add_apply, Finsupp.add_apply] at h
  by_cases h1 : 0 < sends c 0 g r
  · obtain ⟨q, -, hq⟩ := sends_pos h1; exact .inl ⟨q, hq⟩
  by_cases h2 : 0 < (tallyAt (barCell (dst c 0)) 0 1 : CellTallies nD τ sig ℕ) g r
  · exact .inr (.inl (tally_pos h2))
  rw [Nat.eq_zero_of_not_pos h1, Nat.eq_zero_of_not_pos h2, Nat.zero_add] at h
  exact .inr (.inr (tally_pos h))

/-- A wait below the arrivals still owed. -/
theorem mayWait_sends (c : Dev nD) (sm : SemLoc sig) (r p : ℕ) (hr : r < 8) (h : lv ((c : Thread nD τ), sm) r < p + 2) :
    (levAts L lv : sProp 𝕄) ⊢ MayWait (c : Thread nD τ) sm r (sends c p) :=
  MayOwe.of_cut (L := L) (lev := lv) (p + 1) (fun x hx => by rw [Finset.mem_singleton.mp hx]; exact mem_L _ _ _ hr)
    (fun g u hg => by obtain ⟨q, h1, h2, rfl, rfl⟩ := sends_pos hg; exact mem_L _ _ _ (by omega))
    (fun x hx => by rw [Finset.mem_singleton.mp hx]; exact Nat.le_of_lt_succ h)
    (fun g u hg => by obtain ⟨q, h1, h2, rfl, rfl⟩ := sends_pos hg; rw [lv_recv _ q h2]; omega)

/-- A wait at level zero, everything owed. -/
theorem mayWait_all (c : Dev nD) (sm : SemLoc sig) (h : lv ((c : Thread nD τ), sm) 0 = 0) :
    (levAts L lv : sProp 𝕄) ⊢ MayWait (c : Thread nD τ) sm 0 (O₀ c) :=
  MayOwe.of_cut (L := L) (lev := lv) 0 (fun x hx => by rw [Finset.mem_singleton.mp hx]; exact mem_L c sm 0 (by decide))
    (fun g u hg => by rcases O₀_pos hg with ⟨q, h1, rfl, rfl⟩ | ⟨rfl, rfl⟩ | ⟨rfl, rfl⟩ <;> exact mem_L _ _ _ (by omega))
    (fun x hx => by rw [Finset.mem_singleton.mp hx]; exact h.le)
    (fun g u hg => by
      rcases O₀_pos hg with ⟨q, h1, rfl, rfl⟩ | ⟨rfl, rfl⟩ | ⟨rfl, rfl⟩
      · rw [lv_recv _ q h1]; omega
      · rw [lv_bar]; decide
      · rw [lv_bar]; decide)

end Cert.RingProof

end
-- ==== Proof.Ops.lean ====
/-
The operations of a step, one rule each, at a symbolic device, ring and position.
-/
module

public import proofs.«01_k».proof.Proof.Proto

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-- No loop of the program needs a measure. -/
abbrev 𝒱₀ : Variants := Variants.none

/-- The weakest precondition of a program on device `c`'s TensorCore. -/
abbrev WP {α : Type} (c : Dev nD) (P : Pg F α) (Q : α → sProp 𝕄) : sProp 𝕄 :=
  wp frame (wpE (defs₀ (F := F)) 𝒱₀ (c : Thread nD τ) none) Set.univ P Q

variable (Y : Dev nD → ℕ → Tile F)
variable (R : (c : Dev nD) → Buf (Elt F) ((oM : Memref sig .tc .hbm S4096x2048 .bf16).view.loc (c : Thread nD τ)))
variable (K : Dev nD × Fin 49 → ℕ)

/-- Every cell's invariant. -/
def invs : sProp 𝕄 := bigSep Finset.univ fun ck : Dev nD × Fin 49 => cellInv ER (ringRd Y R) (K ck) (kcell ck)

/-- The invariants may be used any number of times. -/
instance invs_persistent : BI.Persistent (invs Y R K) := by unfold invs; infer_instance

/-- Each cell of a device has its invariant. -/
theorem inv_of (c : Dev nD) (sm : SemLoc sig) (h : ∃ k : Fin 49, csem k = sm) :
    invs Y R K ⊢ iprop(∃ κ, cellInv ER (ringRd Y R) κ ((c : Thread nD τ), sm)) := by
  obtain ⟨k, rfl⟩ := h
  unfold invs
  exact (bigSep_elim (Finset.mem_univ (c, k))).trans (exists_intro (PROP := sProp 𝕄) (Φ := fun κ => cellInv ER (ringRd Y R) κ (kcell (c, k))) (K (c, k)))

/-- What device `c` owes at position `p`, whatever it has waited for. -/
def debt (c : Dev nD) (p : ℕ) : sProp 𝕄 := iprop(∃ W, owes (c : Thread nD τ) (sends c p) W)

/-- Device `c` stands at round `q / 20` of the receive cell of position `q`, nothing of the round taken. -/
def recvPos (c : Dev nD) (q : ℕ) : sProp 𝕄 := atPos ER (recvCell c q) (q / 20) ∅ 0
/-- The same at the send cell. -/
def sendPos (c : Dev nD) (q : ℕ) : sProp 𝕄 := atPos ER (sendCell c q) (q / 20) ∅ 0
/-- The same at the store cell, at round `(q - 60) / 8`. -/
def storePos (c : Dev nD) (q : ℕ) : sProp 𝕄 := atPos ER (storeCell c q) ((q - 60) / 8) ∅ 0
/-- The round of position `q` of its receive cell is reached. -/
def recvOk (c : Dev nD) (q : ℕ) : sProp 𝕄 := reached ER (recvCell c q) (q / 20)
/-- The same for the send cell. -/
def sendOk (c : Dev nD) (q : ℕ) : sProp 𝕄 := reached ER (sendCell c q) (q / 20)
/-- The same for the store cell. -/
def storeOk (c : Dev nD) (q : ℕ) : sProp 𝕄 := reached ER (storeCell c q) ((q - 60) / 8)
/-- The credit to wait with for the arrival of position `q`. -/
def recvCred (c : Dev nD) (q : ℕ) : sProp 𝕄 := cred (tallyAt (recvCell c q) (q / 20) N)
/-- The same for the send cell. -/
def sendCred (c : Dev nD) (q : ℕ) : sProp 𝕄 := cred (tallyAt (sendCell c q) (q / 20) N)
/-- The same for the store cell. -/
def storeCred (c : Dev nD) (q : ℕ) : sProp 𝕄 := cred (tallyAt (storeCell c q) ((q - 60) / 8) N)
/-- The tokens with which device `c` starts the hop of position `q`. -/
def sendTok (c : Dev nD) (q : ℕ) : sProp 𝕄 :=
  iprop(dutyTok ER (sendCell c q) (q / 20) false ∗ dutyTok ER (recvCell (dst c (tq q)) q) (q / 20) false)
/-- The token with which device `c` starts the store of position `q`. -/
def storeTok (c : Dev nD) (q : ℕ) : sProp 𝕄 := dutyTok ER (storeCell c q) ((q - 60) / 8) false

/-- Receive cells come round every twenty positions. -/
theorem recvCell_add (c : Dev nD) (q : ℕ) : recvCell c (q + 20) = recvCell c q := by unfold recvCell; rw [recvS_add]
/-- Send cells come round every twenty positions. -/
theorem sendCell_add (c : Dev nD) (q : ℕ) : sendCell c (q + 20) = sendCell c q := by unfold sendCell; rw [sendS_add]
/-- Store cells come round every eight positions. -/
theorem storeCell_add (c : Dev nD) (q : ℕ) : storeCell c (q + 8) = storeCell c q := by unfold storeCell; rw [storeS_add]

/-! A load or a store through a slot's rectangle reaches the slot's elements. -/
omit [FloatOps F] in
/-- A load of a slot of the receive buffer touches that slot only. -/
theorem comm_reach (t : Fin 4) (s : Fin 5) : (cM : Memref sig .tc .vmem S4x5x128x1024 .bf16).view.setOn (commR t s).toLoadRect.set ⊆ (commM cM t s).view.set :=
  subset_of_eq ((View.set_slice _ _).symm.trans (comm_access t s))
omit [FloatOps F] in
/-- A store to a slot of the receive buffer touches that slot only. -/
theorem comm_reach' (t : Fin 4) (s : Fin 5) : ((cM : Memref sig .tc .vmem S4x5x128x1024 .bf16).access (commR t s)).setOn Finset.univ ⊆ (commM cM t s).view.set :=
  subset_of_eq ((View.setOn_univ _).trans (comm_access t s))
omit [FloatOps F] in
/-- A load of a slot of the staging buffer touches that slot only. -/
theorem stage_reach (t : Fin 4) (s : Fin 2) : (gM : Memref sig .tc .vmem S4x2x128x1024 .bf16).view.setOn (stageR t s).toLoadRect.set ⊆ (stageM gM t s).view.set :=
  subset_of_eq ((View.set_slice _ _).symm.trans (stage_access t s))
omit [FloatOps F] in
/-- A store to a slot of the staging buffer touches that slot only. -/
theorem stage_reach' (t : Fin 4) (s : Fin 2) : ((gM : Memref sig .tc .vmem S4x2x128x1024 .bf16).access (stageR t s)).setOn Finset.univ ⊆ (stageM gM t s).view.set :=
  subset_of_eq ((View.setOn_univ _).trans (stage_access t s))

section Rules

variable (c : Dev nD)

/-- The wait for the arrival of position `q`: the slot with what the sender sent, the room it brings, and the next round. -/
theorem wp_recv {α : Type} (Q : α → sProp 𝕄) (q p : ℕ) (hq : q < 120) (hp : q < p) (k : PUnit → Pg F α) :
    iprop(invs Y R K ∗ levAts L lv ∗ recvCred c q ∗ debt c p ∗ recvPos c q)
      ⊢ iprop(((debt c p ∗ recvPos c (q + 20) ∗ recvOk c (q + 20)
            ∗ commAt c (tq q) (cs (q / 4 + 1)) fullShare (Y (src c (tq q)) q) ∗ grant c q) -∗ WP c (k ⟨⟩) Q)
          -∗ WP c (waitRecv cM (Memref.isWhole_whole _) cc0_scratch4 (q / 4 + 1) (tq q) >>= k) Q) := by
  simp only [waitRecv, Prog.lift, Prog.bind_op, Prog.bind_ret]
  unfold recvCred debt recvPos recvOk
  iintro ⟨#HI, #Hlev, Hc, ⟨%W, HO⟩, Hat⟩ Hk
  ihave Hinv := (inv_of Y R K c _ (csem_recv q)) $$ HI
  icases Hinv with ⟨%κ, #Hinv⟩
  have hd := duties_recv Y R c q hq
  have he : 0 + (commM cM (tq q) (cs (q / 4 + 1))).view.dmaCredit = (ringRd Y R).expect (recvCell c q) (q / 20) := by
    rw [Nat.zero_add, comm_credit (tq q) (cs (q / 4 + 1))]; exact (expect_dma Y R c _ _ hd).symm
  rw [← comm_credit (tq q) (cs (q / 4 + 1))]
  iapply (Rounds.wp_wait_rest_token 𝒱₀ ER (ringRd Y R) (c : Thread nD τ) none (κ := κ)
      (wpE_waitDma2_eq 𝒱₀ (c : Thread nD τ) none Set.univ) (Set.mem_univ _) (q / 20) (O := sends c p) (W := W) (R := q / 20) (m := 0) (T := ∅)
      he) $$ [Hc HO Hat]
  · isplitr; · iexact Hinv
    isplitl [Hc]; · iexact Hc
    isplitl [HO]; · iexact HO
    isplitr
    · iapply (mayWait_sends c _ (q / 20) p (by omega) (by rw [lv_recv c q hq]; omega)); iexact Hlev
    iexact Hat
  iintro ⟨HO, Hat, Hr, Hpay⟩
  ihave Hp := (Entails.of_eq ((rest_one Y R c _ _ hd).trans (payload_recv Y R c q hq false))) $$ Hpay
  icases Hp with ⟨Hslot, Hg⟩
  iapply Hk
  rw [recvCell_add, show (q + 20) / 20 = q / 20 + 1 by omega]
  isplitl [HO]; · iexists _; iexact HO
  isplitl [Hat]; · iexact Hat
  isplitl [Hr]; · iexact Hr
  isplitl [Hslot] <;> iassumption

/-- The wait for the departure of position `q`: the half of the source slot it held, and the next round. -/
theorem wp_sent {α : Type} (Q : α → sProp 𝕄) (q p : ℕ) (hq : q < 120) (k : PUnit → Pg F α) :
    iprop(invs Y R K ∗ levAts L lv ∗ sendCred c q ∗ debt c p ∗ sendPos c q)
      ⊢ iprop(((debt c p ∗ sendPos c (q + 20) ∗ sendOk c (q + 20)
            ∗ commAt c (tq q) (cs (q / 4)) fullShare.left (Y c q)) -∗ WP c (k ⟨⟩) Q)
          -∗ WP c (waitSend cM (Memref.isWhole_whole _) cc0_scratch3 (q / 4) (tq q) >>= k) Q) := by
  simp only [waitSend, Prog.lift, Prog.bind_op, Prog.bind_ret]
  unfold sendCred debt sendPos sendOk
  iintro ⟨#HI, #Hlev, Hc, ⟨%W, HO⟩, Hat⟩ Hk
  ihave Hinv := (inv_of Y R K c _ (csem_send q)) $$ HI
  icases Hinv with ⟨%κ, #Hinv⟩
  have hd := duties_send Y R c q hq
  have he : 0 + (commM cM (tq q) (cs (q / 4))).view.dmaCredit = (ringRd Y R).expect (sendCell c q) (q / 20) := by
    rw [Nat.zero_add, comm_credit (tq q) (cs (q / 4))]; exact (expect_dma Y R c _ _ hd).symm
  rw [← comm_credit (tq q) (cs (q / 4))]
  iapply (Rounds.wp_wait_rest_token 𝒱₀ ER (ringRd Y R) (c : Thread nD τ) none (κ := κ)
      (wpE_waitDma2_eq 𝒱₀ (c : Thread nD τ) none Set.univ) (Set.mem_univ _) (q / 20) (O := sends c p) (W := W) (R := q / 20) (m := 0) (T := ∅)
      he) $$ [Hc HO Hat]
  · isplitr; · iexact Hinv
    isplitl [Hc]; · iexact Hc
    isplitl [HO]; · iexact HO
    isplitr
    · iapply (mayWait_sends c _ (q / 20) p (by omega) (by rw [lv_send c q hq]; omega)); iexact Hlev
    iexact Hat
  iintro ⟨HO, Hat, Hr, Hpay⟩
  ihave Hp := (Entails.of_eq ((rest_one Y R c _ _ hd).trans (payload_send Y R c q hq false))) $$ Hpay
  iapply Hk
  rw [sendCell_add, show (q + 20) / 20 = q / 20 + 1 by omega]
  isplitl [HO]; · iexists _; iexact HO
  isplitl [Hat]; · iexact Hat
  isplitl [Hr] <;> iassumption

/-- The wait for the store of position `q`: the result tile written, the staging slot back, and the next round. -/
theorem wp_stored {α : Type} (Q : α → sProp 𝕄) (q p : ℕ) (h0 : 60 ≤ q) (hq : q < 124) (k : PUnit → Pg F α) :
    iprop(invs Y R K ∗ levAts L lv ∗ storeCred c q ∗ debt c p ∗ storePos c q)
      ⊢ iprop(((debt c p ∗ storePos c (q + 8) ∗ storeOk c (q + 8)
            ∗ tileAt c q (R c) ∗ stageAt c (tq q) (gs (q / 4)) (Y c q)) -∗ WP c (k ⟨⟩) Q)
          -∗ WP c (waitStore oM (Memref.isWhole_whole _) gM (Memref.isWhole_whole _) cc0_scratch5 c (q / 4) (tq q) >>= k) Q) := by
  simp only [waitStore, Prog.lift, Prog.bind_op, Prog.bind_ret]
  unfold storeCred debt storePos storeOk
  iintro ⟨#HI, #Hlev, Hc, ⟨%W, HO⟩, Hat⟩ Hk
  ihave Hinv := (inv_of Y R K c _ (csem_store q)) $$ HI
  icases Hinv with ⟨%κ, #Hinv⟩
  have hd := duties_store Y R c q h0 hq
  have he : 0 + (outM oM c (q / 4) (tq q)).view.dmaCredit = (ringRd Y R).expect (storeCell c q) ((q - 60) / 8) := by
    rw [Nat.zero_add, out_credit c (q / 4) (tq q)]; exact (expect_dma Y R c _ _ hd).symm
  rw [← out_credit c (q / 4) (tq q)]
  iapply (Rounds.wp_wait_rest_token 𝒱₀ ER (ringRd Y R) (c : Thread nD τ) none (κ := κ)
      (wpE_waitDma2_eq 𝒱₀ (c : Thread nD τ) none Set.univ) (Set.mem_univ _) ((q - 60) / 8) (O := sends c p) (W := W) (R := (q - 60) / 8) (m := 0) (T := ∅)
      he) $$ [Hc HO Hat]
  · isplitr; · iexact Hinv
    isplitl [Hc]; · iexact Hc
    isplitl [HO]; · iexact HO
    isplitr
    · iapply (mayWait_sends c _ ((q - 60) / 8) p (by omega) (by rw [lv_store c q h0 hq]; omega)); iexact Hlev
    iexact Hat
  iintro ⟨HO, Hat, Hr, Hpay⟩
  ihave Hp := (Entails.of_eq ((rest_one Y R c _ _ hd).trans (payload_store Y R c q h0 hq false))) $$ Hpay
  icases Hp with ⟨Ht, Hs⟩
  iapply Hk
  rw [storeCell_add, show (q + 8 - 60) / 8 = (q - 60) / 8 + 1 by omega]
  isplitl [HO]; · iexists _; iexact HO
  isplitl [Hat]; · iexact Hat
  isplitl [Hr]; · iexact Hr
  isplitl [Ht] <;> iassumption

/-- The hop of position `p`: half of the source slot leaves with it, the target's slot and the grant arrive with it. -/
theorem wp_hop {α : Type} (Q : α → sProp 𝕄) (p : ℕ) (hp : p < 120) (k : PUnit → Pg F α) :
    iprop(invs Y R K ∗ commAt c (tq p) (cs (p / 4)) fullShare (Y c p) ∗ room c p ∗ grant (dst c (tq p)) p
        ∗ debt c p ∗ sendTok c p ∗ sendOk c p)
      ⊢ iprop(((sendCred c p ∗ debt c (p + 1) ∗ commAt c (tq p) (cs (p / 4)) fullShare.right (Y c p)) -∗ WP c (k ⟨⟩) Q)
          -∗ WP c (send cM (Memref.isWhole_whole _) cc0_scratch3 cc0_scratch4 c (p / 4) (tq p) >>= k) Q) := by
  simp only [send, Prog.lift, Prog.bind_op, Prog.bind_ret]
  unfold sendCred debt sendTok sendOk room commAt
  iintro ⟨#HI, Hsrc, ⟨⟨%X, Hdst⟩, Hr2⟩, Hg, ⟨%W, HO⟩, ⟨Ht1, Ht2⟩, Hr1⟩ Hk
  ihave Hinv := (inv_of Y R K c _ (csem_send p)) $$ HI
  icases Hinv with ⟨%κ₁, #Hinv1⟩
  ihave Hinv := (inv_of Y R K (dst c (tq p)) _ (csem_recv p)) $$ HI
  icases Hinv with ⟨%κ₂, #Hinv2⟩
  ihave Hh := (pointsTo_share (PosShare.mem_left_op_right fullShare)).1 $$ Hsrc
  icases Hh with ⟨Hl, Hrr⟩
  iapply (Rounds.wp_send_pointsTo_with 𝒱₀ ER (ringRd Y R) (c : Thread nD τ) none (κ₁ := κ₁) (κ₂ := κ₂) (c' := (Dev.tc (dst c (tq p)) : Thread nD τ)) (src := commM cM (tq p) (cs (p / 4))) (dst := (commM cM (tq p) (cs (p / 4 + 1)) : Memref sig (dst c (tq p) : Thread nD τ).2.kind .vmem S128x1024 .bf16))
    (sS := .dma (sendS p)) (sem := .dma (recvS p))
    (r₁ := p / 20) (r₂ := p / 20) (d₁ := false) (d₂ := false) (F := grant (dst c (tq p)) p)
    (by rw [duties_send Y R c p hp]; exact Finset.mem_singleton_self _) (by rw [duties_recv Y R (dst c (tq p)) p hp]; exact Finset.mem_singleton_self _)
    (p / 20) (p / 20) N (comm_credit (tq p) (cs (p / 4 + 1))) (amount_dma Y R c _ _ _) (amount_dma Y R (dst c (tq p)) _ _ _) (sends c (p + 1)) (sends_step c p hp) (W := W)
    (by rw [payload_send Y R c p hp]; exact BI.Entails.refl _)
    (by
      rw [payload_recv Y R (dst c (tq p)) p hp, src_dst, show (commM cM (tq p) (cs (p / 4))).view.read (Elt F) (commBuf c (Y c p)) = Y c p from comm_read c _ _ _]
      unfold commAt
      rw [pointsTo_congr (comm_land (dst c (tq p)) (tq p) (cs (p / 4 + 1)) (Y c p) _)])) $$ [Hl Hdst Hg HO Ht1 Ht2 Hr1 Hr2]
  · isplitr; · iexact Hinv1
    isplitr; · iexact Hinv2
    isplitl [Hl]; · iexact Hl
    isplitl [Hdst Hg]
    · isplitl [Hdst] <;> iassumption
    isplitl [HO]; · iexact HO
    isplitl [Ht1]; · iexact Ht1
    isplitl [Hr1]; · iexact Hr1
    isplitl [Ht2] <;> iassumption
  iintro ⟨Hc, HO⟩
  iapply Hk
  isplitl [Hc]; · iexact Hc
  isplitl [HO]; · iexists W; iexact HO
  iexact Hrr

/-- Once the tile of a position is written, its elements are the result's. -/
theorem tile_land (q : ℕ) (X : Tile F) (hR : (outM oM c (q / 4) (tq q)).view.read (Elt F) (R c) = X)
    (f : Buf (Elt F) ((oM : Memref sig .tc .hbm S4096x2048 .bf16).view.loc (c : Thread nD τ))) :
    ∀ i ∈ (outM oM c (q / 4) (tq q)).view.set, (outM oM c (q / 4) (tq q)).view.write (Elt F) f X Finset.univ i = R c i := by
  intro i hi
  obtain ⟨x, -, rfl⟩ := Finset.mem_map.mp hi
  rw [View.write_emb_of_mem _ _ (Finset.mem_univ x), ← hR]
  rfl

/-- The store of position `q`: the staging slot to the result tile. -/
theorem wp_copyOut {α : Type} (Q : α → sProp 𝕄) (q : ℕ) (h0 : 60 ≤ q) (hq : q < 124) (hR : (outM oM c (q / 4) (tq q)).view.read (Elt F) (R c) = Y c q) (k : PUnit → Pg F α) :
    iprop(invs Y R K ∗ stageAt c (tq q) (gs (q / 4)) (Y c q) ∗ (∃ f, tileAt c q f) ∗ storeTok c q ∗ storeOk c q)
      ⊢ iprop((storeCred c q -∗ WP c (k ⟨⟩) Q)
          -∗ WP c (copyOut oM (Memref.isWhole_whole _) gM (Memref.isWhole_whole _) cc0_scratch5 c (q / 4) (tq q) >>= k) Q) := by
  simp only [copyOut, Prog.lift, Prog.bind_op, Prog.bind_ret]
  unfold storeCred storeTok storeOk stageAt tileAt
  iintro ⟨#HI, Hs, ⟨%f, Hd⟩, Ht, Hr⟩ Hk
  ihave Hinv := (inv_of Y R K c _ (csem_store q)) $$ HI
  icases Hinv with ⟨%κ, #Hinv⟩
  iapply (Rounds.wp_copy_pointsTo 𝒱₀ ER (ringRd Y R) (c : Thread nD τ) none (κ := κ) (r := (q - 60) / 8) (d := false) (src := stageM gM (tq q) (gs (q / 4))) (dst := outM oM c (q / 4) (tq q)) (sem := .dma (storeS q))
    (by rw [duties_store Y R c q h0 hq]; exact Finset.mem_singleton_self _) ((q - 60) / 8) N (out_credit c (q / 4) (tq q)) (amount_dma Y R c _ _ _)
    (by
      rw [payload_store Y R c q h0 hq, stage_read c]
      unfold tileAt stageAt
      exact sep_mono_left (Entails.of_eq (pointsTo_congr (tile_land R c q (Y c q) hR f))))) $$ [Hs Hd Ht Hr]
  · isplitr; · iexact Hinv
    isplitl [Hs]; · iexact Hs
    isplitl [Hd]; · iexact Hd
    isplitl [Ht] <;> iassumption
  iexact Hk

/-- A load of a slot of the receive buffer. -/
theorem wp_loadComm {α : Type} (Q : α → sProp 𝕄) (t : Fin 4) (s : Fin 5) (π : PosShare TreeShare) (X : Tile F) (k : Vec F S1x1x128x1024 .bf16 → Pg F α) :
    (commAt c t s π X : sProp 𝕄) ⊢ iprop((commAt c t s π X -∗ WP c (k (unsq X)) Q) -∗ WP c (loadComm cM t s >>= k) Q) := by
  simp only [loadComm, Prog.lift, Prog.bind_op, Prog.bind_ret]
  unfold commAt
  have e := comm_load c t s X
  rw [← e]
  exact wp_load 𝒱₀ (c : Thread nD τ) none Set.univ (m := cM) (r := (commR t s).toLoadRect) (comm_reach t s)

/-- A load of a slot of the staging buffer, whose value goes nowhere. -/
theorem wp_loadStage {α : Type} (Q : α → sProp 𝕄) (t : Fin 4) (s : Fin 2) (X : Tile F) (P : Pg F α) :
    (stageAt c t s X : sProp 𝕄) ⊢ iprop((stageAt c t s X -∗ WP c P Q) -∗ WP c (loadStage gM t s >>= fun _ => P) Q) := by
  simp only [loadStage, Prog.lift, Prog.bind_op, Prog.bind_ret]
  unfold stageAt
  exact wp_load 𝒱₀ (c : Thread nD τ) none Set.univ (m := gM) (r := (stageR t s).toLoadRect) (k := fun _ => P) (stage_reach t s)

/-- After a store of the tile `Z` the slot of the receive buffer holds `Z`. -/
theorem comm_stored (t : Fin 4) (s : Fin 5) (X Z : Tile F) :
    ((commM cM t s).view.loc (c : Thread nD τ) ↦[(commM cM t s).view.set]{fullShare}
        (((cM : Memref sig .tc .vmem S4x5x128x1024 .bf16).access (commR t s)).write (Elt F) (commBuf c X) (unsq Z) Finset.univ
          : Buf (Elt F) ((commM cM t s).view.loc (c : Thread nD τ))) : sProp 𝕄) = commAt c t s fullShare Z :=
  pointsTo_congr (comm_store c t s Z (commBuf c X))
/-- After a store of the tile `Z` the slot of the staging buffer holds `Z`. -/
theorem stage_stored (t : Fin 4) (s : Fin 2) (X Z : Tile F) :
    ((stageM gM t s).view.loc (c : Thread nD τ) ↦[(stageM gM t s).view.set]{fullShare}
        (((gM : Memref sig .tc .vmem S4x2x128x1024 .bf16).access (stageR t s)).write (Elt F) (stageBuf c X) (unsq Z) Finset.univ
          : Buf (Elt F) ((stageM gM t s).view.loc (c : Thread nD τ))) : sProp 𝕄) = stageAt c t s Z :=
  pointsTo_congr (stage_store c t s Z (stageBuf c X))

/-- A store to a slot of the receive buffer. -/
theorem wp_storeComm {α : Type} (Q : α → sProp 𝕄) (t : Fin 4) (s : Fin 5) (X Z : Tile F) (k : PUnit → Pg F α) :
    (commAt c t s fullShare X : sProp 𝕄) ⊢ iprop((commAt c t s fullShare Z -∗ WP c (k ⟨⟩) Q) -∗ WP c (storeComm cM (Memref.isWhole_whole _) t s (unsq Z) >>= k) Q) := by
  simp only [storeComm, Prog.lift, Prog.bind_op, Prog.bind_ret]
  rw [← comm_stored c t s X Z]
  exact wp_store 𝒱₀ (c : Thread nD τ) none Set.univ (m := cM) (r := commR t s) (Mk := Finset.univ) (f := commBuf c X) (comm_reach' t s)

/-- A store to a slot of the staging buffer. -/
theorem wp_storeStage {α : Type} (Q : α → sProp 𝕄) (t : Fin 4) (s : Fin 2) (X Z : Tile F) (k : PUnit → Pg F α) :
    (stageAt c t s X : sProp 𝕄) ⊢ iprop((stageAt c t s Z -∗ WP c (k ⟨⟩) Q) -∗ WP c (storeStage gM (Memref.isWhole_whole _) t s (unsq Z) >>= k) Q) := by
  simp only [storeStage, Prog.lift, Prog.bind_op, Prog.bind_ret]
  rw [← stage_stored c t s X Z]
  exact wp_store 𝒱₀ (c : Thread nD τ) none Set.univ (m := gM) (r := stageR t s) (Mk := Finset.univ) (f := stageBuf c X) (stage_reach' t s)

/-- The two halves of a slot are the slot. -/
theorem comm_join (t : Fin 4) (s : Fin 5) (X : Tile F) :
    iprop(commAt c t s fullShare.left X ∗ commAt c t s fullShare.right X) ⊢ (commAt c t s fullShare X : sProp 𝕄) := by
  unfold commAt
  exact (pointsTo_share (PosShare.mem_left_op_right fullShare)).2

end Rules

end Cert.RingProof

end
-- ==== Proof.Step.lean ====
/-
One step of one ring: what a device holds before and after it, and the step from the one to the other.
-/
module

public import proofs.«01_k».proof.Proof.Ops

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-! ## Runs of positions -/

/-- The first of a run, and the rest. -/
theorem peel (Φ : ℕ → sProp 𝕄) (a a' b : ℕ) (h : a < b) (e : a' = a + 1) :
    bigSep (Finset.Ico a b) Φ ⊢ iprop(Φ a ∗ bigSep (Finset.Ico a' b) Φ) := by
  subst e; exact Entails.of_eq (bigSep_Ico_succ_bot h Φ)
/-- One more at the end of a run. -/
theorem push (Φ : ℕ → sProp 𝕄) (a b b' : ℕ) (h : a ≤ b) (e : b' = b + 1) :
    iprop(Φ b ∗ bigSep (Finset.Ico a b) Φ) ⊢ bigSep (Finset.Ico a b') Φ := by
  subst e; exact Entails.of_eq (bigSep_Ico_succ_top h Φ).symm
/-- A run is its bounds. -/
theorem same (Φ : ℕ → sProp 𝕄) (a b a' b' : ℕ) (h : ∀ x, (a ≤ x ∧ x < b) ↔ (a' ≤ x ∧ x < b')) :
    bigSep (Finset.Ico a b) Φ ⊢ bigSep (Finset.Ico a' b') Φ := by
  rw [show Finset.Ico a b = Finset.Ico a' b' from Finset.ext fun x => by rw [Finset.mem_Ico, Finset.mem_Ico]; exact h x]

section Step

variable (Y : Dev nD → ℕ → Tile F)
variable (R : (c : Dev nD) → Buf (Elt F) ((oM : Memref sig .tc .hbm S4096x2048 .bf16).view.loc (c : Thread nD τ)))
variable (K : Dev nD × Fin 49 → ℕ)
variable (c : Dev nD)

/-! ## What a device holds before the step of position `p` -/

/-- For the arrivals to come: the credits to wait with, and where it stands at its receive cells. -/
def arrivals (p : ℕ) : sProp 𝕄 :=
  iprop(bigSep (Finset.Ico (p - 4) 120) (recvCred c) ∗ bigSep (Finset.Ico (p - 4) (p + 16)) (recvPos c))

/-- A slot it may write to: the source slot of position `q`. -/
def free (q : ℕ) : sProp 𝕄 := iprop(∃ X : Tile F, commAt c (tq q) (cs (q / 4)) fullShare X)
/-- A hop under way: its credit, and the half of the source slot the device kept. -/
def away (q : ℕ) : sProp 𝕄 := iprop(sendCred c q ∗ commAt c (tq q) (cs (q / 4)) fullShare.right (Y c q))
/-- The hops under way, and where the device stands at its send cells. -/
def departures (p : ℕ) : sProp 𝕄 :=
  iprop(bigSep (Finset.Ico p (max 20 (p + 12))) (sendOk c) ∗ bigSep (Finset.Ico (p - 8) (max 20 (p + 12))) (sendPos c)
    ∗ bigSep (Finset.Ico (p - 8) p) (away Y c))
/-- The slot freed one step before, while hops still grant one. -/
def held (p : ℕ) : sProp 𝕄 := if 9 ≤ p ∧ p ≤ 112 then free c (p - 9) else iprop(emp)
/-- The slots freed and no longer granted. -/
def kept (p : ℕ) : sProp 𝕄 := bigSep (Finset.Ico 104 (p - 8)) (free (F := F) c)
/-- The rooms its hops will use. -/
def rooms (p : ℕ) : sProp 𝕄 := bigSep (Finset.Ico p (max 16 (min 120 (p + 3)))) (room (F := F) c)
/-- The rounds of its receive cells that it can announce. -/
def rounds (p : ℕ) : sProp 𝕄 := bigSep (Finset.Ico (max 16 (p + 7)) (p + 16)) (recvOk (F := F) c)
/-- For the hops to come and under way. -/
def hops (p : ℕ) : sProp 𝕄 :=
  iprop(bigSep (Finset.Ico p 120) (sendTok c) ∗ departures Y c p ∗ rooms c p ∗ rounds c p ∗ held c p ∗ kept c p)

/-- For the stores to come and under way, and the result tiles done. -/
def stores (p : ℕ) : sProp 𝕄 :=
  iprop(bigSep (Finset.Ico p 124) (fun q => iprop(storeTok c q ∗ ∃ f, tileAt c q f))
    ∗ bigSep (Finset.Ico p 68) (fun q => iprop(storeOk c q ∗ ∃ X : Tile F, stageAt c (tq q) (gs (q / 4)) X))
    ∗ bigSep (Finset.Ico (max 60 (p - 8)) p) (storeCred c) ∗ bigSep (Finset.Ico (max 60 (p - 8)) (max 68 p)) (storePos c)
    ∗ bigSep (Finset.Ico 60 (p - 8)) (fun q => tileAt c q (R c)))

/-- The tiles landed after the last hop was started. -/
def landed (p : ℕ) : sProp 𝕄 := bigSep (Finset.Ico 120 p) (fun q => commAt c (tq q) (cs (q / 4)) fullShare (Y c q))

/-- All of it. -/
def st (p : ℕ) : sProp 𝕄 :=
  iprop(arrivals c p ∗ debt c (min p 120) ∗ hops Y c (min p 120) ∗ stores R c (max p 60) ∗ landed Y c p)

/-! ## The parts of a step -/

omit [FloatOps F] in
/-- Positions four apart are on the same ring. -/
theorem tq_add (q : ℕ) : tq (q + 4) = tq q := Fin.ext (Nat.add_mod_right q 4)

/-- The first part: the arrival, and this device's product added while the reduction lasts. -/
theorem wp_acc {α : Type} (Q : α → sProp 𝕄) (p : ℕ) (h4 : 4 ≤ p) (hp : p < 124) (v : FVec F S256x1024 .f32)
    (hsum : p / 4 ≤ 15 → (if p / 4 ≤ 14 then accum (sub (tq p)) v (unsq (Y (src c (tq p)) (p - 4))) else accumRelu (sub (tq p)) v (unsq (Y (src c (tq p)) (p - 4)))) = unsq (Y c p))
    (hpass : ¬ p / 4 ≤ 15 → Y (src c (tq p)) (p - 4) = Y c p) (k : PUnit → Pg F α) :
    iprop(invs Y R K ∗ levAts L lv ∗ arrivals c p ∗ debt c (min p 120))
      ⊢ iprop(((arrivals c (p + 1) ∗ debt c (min p 120) ∗ recvOk c (p + 16) ∗ grant c (p - 4) ∗ commAt c (tq p) (cs (p / 4)) fullShare (Y c p)) -∗ WP c (k ⟨⟩) Q)
          -∗ WP c (stepAcc cM (Memref.isWhole_whole _) cc0_scratch4 (p / 4) (tq p) v >>= k) Q) := by
  obtain ⟨q, rfl⟩ := Nat.exists_eq_add_of_le' h4
  rw [tq_add, show (q + 4) / 4 = q / 4 + 1 by omega, Nat.add_sub_cancel] at hsum hpass
  rw [tq_add, show (q + 4) / 4 = q / 4 + 1 by omega, Nat.add_sub_cancel]
  unfold stepAcc arrivals
  simp only [bind_assoc, Nat.add_sub_cancel]
  rw [show q + 4 + 1 - 4 = q + 1 by omega]
  iintro ⟨#HI, #Hlev, ⟨Hc, Hat⟩, HO⟩ Hk
  ihave H := (peel (recvCred c) q (q + 1) 120 (by omega) rfl) $$ Hc
  icases H with ⟨Hc1, Hc⟩
  ihave H := (peel (recvPos c) q (q + 1) (q + 4 + 16) (by omega) rfl) $$ Hat
  icases H with ⟨Hat1, Hat⟩
  iapply (wp_recv Y R K c Q q (min (q + 4) 120) (by omega) (by omega)) $$ [Hc1 Hat1 HO]
  · isplitr; · iexact HI
    isplitr; · iexact Hlev
    isplitl [Hc1]; · iexact Hc1
    isplitl [HO] <;> iassumption
  iintro ⟨HO, Hat1, Hok, Hs, Hg⟩
  ihave Hat := (push (recvPos c) (q + 1) (q + 20) (q + 4 + 1 + 16) (by omega) rfl) $$ [Hat1 Hat]
  · isplitl [Hat1] <;> iassumption
  by_cases h15 : q / 4 + 1 ≤ 15
  · rw [if_pos h15]
    simp only [bind_assoc]
    iapply (wp_loadComm c Q (tq q) (cs (q / 4 + 1)) fullShare) $$ Hs
    iintro Hs
    iapply (wp_loadComm c Q (tq q) (cs (q / 4 + 1)) fullShare) $$ Hs
    iintro Hs
    rw [hsum h15]
    iapply (wp_storeComm c Q (tq q) (cs (q / 4 + 1))) $$ Hs
    iintro Hs
    iapply Hk
    isplitl [Hc Hat]
    · isplitl [Hc] <;> iassumption
    isplitl [HO]; · iexact HO
    isplitl [Hok]; · iexact Hok
    isplitl [Hg] <;> iassumption
  · rw [if_neg h15, pure_bind]
    rw [hpass h15]
    iapply Hk
    isplitl [Hc Hat]
    · isplitl [Hc] <;> iassumption
    isplitl [HO]; · iexact HO
    isplitl [Hok]; · iexact Hok
    isplitl [Hg] <;> iassumption

/-- What is left to give on once the slot of position `p - 8` is back. -/
def back (p : ℕ) : sProp 𝕄 := if 8 ≤ p then free c (p - 8) else iprop(emp)

/-- The wait of a step for the hop two iterations before. -/
theorem wp_back {α : Type} (Q : α → sProp 𝕄) (p : ℕ) (hp : p < 120) (k : PUnit → Pg F α) :
    iprop(invs Y R K ∗ levAts L lv ∗ debt c p ∗ departures Y c p)
      ⊢ iprop(((debt c p ∗ back c p ∗ bigSep (Finset.Ico p (max 20 (p + 13))) (sendOk c)
            ∗ bigSep (Finset.Ico (p - 7) (max 20 (p + 13))) (sendPos c) ∗ bigSep (Finset.Ico (p - 7) p) (away Y c)) -∗ WP c (k ⟨⟩) Q)
          -∗ WP c ((if 2 ≤ p / 4 then waitSend cM (Memref.isWhole_whole _) cc0_scratch3 (p / 4 - 2) (tq p) else pure ⟨⟩) >>= k) Q) := by
  unfold departures
  by_cases h8 : 8 ≤ p
  · obtain ⟨q, rfl⟩ := Nat.exists_eq_add_of_le' h8
    rw [if_pos (by omega), show (q + 8) / 4 - 2 = q / 4 by omega, show tq (q + 8) = tq q from (tq_add (q + 4)).trans (tq_add q),
      Nat.add_sub_cancel, show q + 8 - 7 = q + 1 by omega]
    unfold back
    rw [if_pos h8, Nat.add_sub_cancel]
    iintro ⟨#HI, #Hlev, HO, Hok, Hat, Hs⟩ Hk
    ihave H := (peel (sendPos c) q (q + 1) _ (by omega) rfl) $$ Hat
    icases H with ⟨Hat1, Hat⟩
    ihave H := (peel (away Y c) q (q + 1) _ (by omega) rfl) $$ Hs
    unfold away
    icases H with ⟨⟨Hc, Hr⟩, Hs⟩
    iapply (wp_sent Y R K c Q q (q + 8) (by omega)) $$ [Hc Hat1 HO]
    · isplitr; · iexact HI
      isplitr; · iexact Hlev
      isplitl [Hc]; · iexact Hc
      isplitl [HO] <;> iassumption
    iintro ⟨HO, Hat1, Hok1, Hl⟩
    ihave Hf := (comm_join c (tq q) (cs (q / 4)) (Y c q)) $$ [Hl Hr]
    · isplitl [Hl] <;> iassumption
    ihave Hat := (push (sendPos c) (q + 1) (q + 20) (max 20 (q + 8 + 13)) (by omega) (by omega)) $$ [Hat1 Hat]
    · isplitl [Hat1]; · iexact Hat1
      rw [show q + 20 = max 20 (q + 8 + 12) by omega]; iexact Hat
    ihave Hok := (push (sendOk c) (q + 8) (q + 20) (max 20 (q + 8 + 13)) (by omega) (by omega)) $$ [Hok1 Hok]
    · isplitl [Hok1]; · iexact Hok1
      rw [show q + 20 = max 20 (q + 8 + 12) by omega]; iexact Hok
    iapply Hk
    isplitl [HO]; · iexact HO
    isplitl [Hf]; · unfold free; iexists _; iexact Hf
    isplitl [Hok]; · iexact Hok
    isplitl [Hat] <;> iassumption
  · rw [if_neg (by omega), pure_bind]
    unfold back
    rw [if_neg h8]
    iintro ⟨-, -, HO, Hok, Hat, Hs⟩ Hk
    iapply Hk
    isplitl [HO]; · iexact HO
    isplitr; · iempintro
    rw [show max 20 (p + 13) = max 20 (p + 12) by omega, show p - 7 = p - 8 by omega]
    isplitl [Hok]; · iexact Hok
    isplitl [Hat] <;> iassumption

/-- The grant a hop carries: the slot freed one step before, with its cell's round. -/
theorem make_grant (p : ℕ) :
    iprop(held c p ∗ rounds c p) ⊢ (iprop(grant (dst c (tq p)) p ∗ bigSep (Finset.Ico (max 16 (p + 8)) (p + 16)) (recvOk c)) : sProp 𝕄) := by
  unfold held grant rounds
  by_cases h : 9 ≤ p ∧ p ≤ 112
  · rw [if_pos h, if_pos h]
    unfold room free recvOk
    have e1 : dst (dst c (tq p)) (tq (p + 7)) = c := dst_back _ _ _ (by show p % 4 % 2 ≠ (p + 7) % 4 % 2; omega)
    have e2 : tq (p - 9) = tq (p + 7) := Fin.ext (by show (p - 9) % 4 = (p + 7) % 4; omega)
    have e3 : cs ((p - 9) / 4) = cs ((p + 7) / 4 + 1) := Fin.ext (by show (p - 9) / 4 % 5 = ((p + 7) / 4 + 1) % 5; omega)
    rw [e1, e2, e3]
    iintro ⟨Hf, Hr⟩
    ihave H := (peel (fun q => reached ER (recvCell c q) (q / 20)) (max 16 (p + 7)) (max 16 (p + 8)) (p + 16) (by omega) (by omega)) $$ Hr
    icases H with ⟨H1, Hr⟩
    isplitl [Hf H1]
    · isplitl [Hf]; · iexact Hf
      rw [show max 16 (p + 7) = p + 7 by omega]; iexact H1
    · iexact Hr
  · rw [if_neg h, if_neg h]
    refine sep_mono_right (bigSep_subset fun x hx => ?_)
    rw [Finset.mem_Ico] at hx ⊢; omega

/-- The room a hop uses, after the arrival of its step brought one more. -/
theorem take_room (p : ℕ) (h4 : 4 ≤ p) (hp : p < 120) :
    iprop(grant c (p - 4) ∗ rooms c p) ⊢ (iprop(room c p ∗ rooms c (p + 1)) : sProp 𝕄) := by
  have key : iprop(grant c (p - 4) ∗ rooms c p) ⊢ (bigSep (Finset.Ico p (max 16 (min 120 (p + 4)))) (room c) : sProp 𝕄) := by
    unfold grant rooms
    by_cases h : 9 ≤ p - 4 ∧ p - 4 ≤ 112
    · rw [if_pos h, show p - 4 + 7 = max 16 (min 120 (p + 3)) by omega]
      exact push (room c) p _ _ (by omega) (by omega)
    · rw [if_neg h]
      iintro ⟨-, H⟩
      iapply (same (room c) p (max 16 (min 120 (p + 3))) p (max 16 (min 120 (p + 4))) (fun x => by omega)) $$ H
  exact key.trans (peel (room c) p (p + 1) _ (by omega) rfl)

/-- Where the slot that came back goes: the next step's grant, or the ones kept. -/
theorem put_back (p : ℕ) (hp : p < 120) :
    iprop(back c p ∗ kept c p) ⊢ (iprop(held c (p + 1) ∗ kept c (p + 1)) : sProp 𝕄) := by
  unfold back held kept
  by_cases h : 9 ≤ p + 1 ∧ p + 1 ≤ 112
  · rw [if_pos h, if_pos (by omega), show p + 1 - 9 = p - 8 by omega]
    exact sep_mono_right (same _ _ _ _ _ fun x => by omega)
  · rw [if_neg h]
    by_cases h8 : 8 ≤ p
    · rw [if_pos h8]
      iintro H
      isplitr; · iempintro
      iapply (push (free c) 104 (p - 8) (p + 1 - 8) (by omega) (by omega)) $$ H
    · rw [if_neg h8]
      exact sep_mono_right (same _ _ _ _ _ fun x => by omega)

/-- A wait before the rest, where the program makes it. -/
theorem wait_then {α : Type} (b : Prop) [Decidable b] (w : Pg F PUnit) (P : Pg F α) :
    (if b then (w >>= fun _ => P) else P) = ((if b then w else pure ⟨⟩) >>= fun _ => P) := by
  split
  · rfl
  · rw [pure_bind]

/-- The second part: the hop two iterations before has left, and the hop of position `p` starts. -/
theorem wp_pass {α : Type} (Q : α → sProp 𝕄) (p : ℕ) (h4 : 4 ≤ p) (hp : p < 120) (k : PUnit → Pg F α) :
    iprop(invs Y R K ∗ levAts L lv ∗ debt c p ∗ hops Y c p ∗ recvOk c (p + 16) ∗ grant c (p - 4) ∗ commAt c (tq p) (cs (p / 4)) fullShare (Y c p))
      ⊢ iprop(((debt c (p + 1) ∗ commAt c (tq p) (cs (p / 4)) fullShare.right (Y c p)
            ∗ (commAt c (tq p) (cs (p / 4)) fullShare.right (Y c p) -∗ hops Y c (p + 1))) -∗ WP c (k ⟨⟩) Q)
          -∗ WP c (stepSend cM (Memref.isWhole_whole _) cc0_scratch3 cc0_scratch4 c (p / 4) (tq p) >>= k) Q) := by
  unfold stepSend hops
  rw [if_pos (by omega), wait_then]
  simp only [bind_assoc]
  iintro ⟨#HI, #Hlev, HO, ⟨Htok, Hdep, Hroom, Hrnd, Hheld, Hkept⟩, Hok, Hg, Hs⟩ Hk
  iapply (wp_back Y R K c Q p hp) $$ [HO Hdep]
  · isplitr; · iexact HI
    isplitr; · iexact Hlev
    isplitl [HO] <;> iassumption
  iintro ⟨HO, Hb, Hsok, Hsat, Haw⟩
  ihave H := (peel (sendTok c) p (p + 1) 120 hp rfl) $$ Htok
  icases H with ⟨Htok1, Htok⟩
  ihave H := (peel (sendOk c) p (p + 1) (max 20 (p + 13)) (by omega) rfl) $$ Hsok
  icases H with ⟨Hsok1, Hsok⟩
  ihave H := (take_room c p h4 hp) $$ [Hg Hroom]
  · isplitl [Hg] <;> iassumption
  icases H with ⟨Hroom1, Hroom⟩
  ihave H := (make_grant c p) $$ [Hheld Hrnd]
  · isplitl [Hheld] <;> iassumption
  icases H with ⟨Hg, Hrnd⟩
  ihave Hrnd := (push (recvOk c) (max 16 (p + 8)) (p + 16) (p + 17) (by omega) rfl) $$ [Hok Hrnd]
  · isplitl [Hok] <;> iassumption
  ihave H := (put_back c p hp) $$ [Hb Hkept]
  · isplitl [Hb] <;> iassumption
  icases H with ⟨Hheld, Hkept⟩
  iapply (wp_hop Y R K c Q p hp) $$ [Hs Hroom1 Hg HO Htok1 Hsok1]
  · isplitr; · iexact HI
    isplitl [Hs]; · iexact Hs
    isplitl [Hroom1]; · iexact Hroom1
    isplitl [Hg]; · iexact Hg
    isplitl [HO]; · iexact HO
    isplitl [Htok1] <;> iassumption
  iintro ⟨Hc, HO, Hr⟩
  iapply Hk
  isplitl [HO]; · iexact HO
  isplitl [Hr]; · iexact Hr
  iintro Hr
  isplitl [Htok]; · iexact Htok
  isplitl [Hsok Hsat Haw Hc Hr]
  · unfold departures
    rw [show p + 1 + 12 = p + 13 by omega, show p + 1 - 8 = p - 7 by omega]
    isplitl [Hsok]; · iexact Hsok
    isplitl [Hsat]; · iexact Hsat
    iapply (push (away Y c) (p - 7) p (p + 1) (by omega) rfl)
    isplitl [Hc Hr]
    · unfold away; isplitl [Hc] <;> iassumption
    · iexact Haw
  isplitl [Hroom]; · iexact Hroom
  isplitl [Hrnd]; · unfold rounds; iexact Hrnd
  isplitl [Hheld] <;> iassumption

/-- A tile whose shape changed and changed back. -/
theorem recast_unsq (X : Tile F) : recast (unsq X) = unsq X := by
  unfold recast unsq
  rw [cast_unsq, cast_tile]

/-- What a step needs for its store: the staging slot, free, and the announced round. -/
def slotFor (q : ℕ) : sProp 𝕄 := iprop(storeOk c q ∗ ∃ X : Tile F, stageAt c (tq q) (gs (q / 4)) X)

/-- The wait of a step for the store two iterations before. -/
theorem wp_slot {α : Type} (Q : α → sProp 𝕄) (p d : ℕ) (h60 : 60 ≤ p) (hp : p < 124) (k : PUnit → Pg F α) :
    iprop(invs Y R K ∗ levAts L lv ∗ debt c d ∗ bigSep (Finset.Ico p 68) (slotFor (F := F) c)
        ∗ bigSep (Finset.Ico (max 60 (p - 8)) p) (storeCred c) ∗ bigSep (Finset.Ico (max 60 (p - 8)) (max 68 p)) (storePos c)
        ∗ bigSep (Finset.Ico 60 (p - 8)) (fun q => tileAt c q (R c)))
      ⊢ iprop(((debt c d ∗ slotFor c p ∗ bigSep (Finset.Ico (p + 1) 68) (slotFor (F := F) c)
          ∗ bigSep (Finset.Ico (max 60 (p + 1 - 8)) p) (storeCred c) ∗ bigSep (Finset.Ico (max 60 (p + 1 - 8)) (max 68 (p + 1))) (storePos c)
          ∗ bigSep (Finset.Ico 60 (p + 1 - 8)) (fun q => tileAt c q (R c))) -∗ WP c (k ⟨⟩) Q)
        -∗ WP c ((if 17 ≤ p / 4 then waitStore oM (Memref.isWhole_whole _) gM (Memref.isWhole_whole _) cc0_scratch5 c (p / 4 - 2) (tq p) else pure ⟨⟩) >>= k) Q) := by
  by_cases h68 : 68 ≤ p
  · obtain ⟨q, rfl⟩ := Nat.exists_eq_add_of_le' (show 8 ≤ p by omega)
    have et : tq (q + 8) = tq q := (tq_add (q + 4)).trans (tq_add q)
    rw [if_pos (by omega), show (q + 8) / 4 - 2 = q / 4 by omega, et,
      Nat.add_sub_cancel, show q + 8 + 1 - 8 = q + 1 by omega, show max 60 q = q by omega, show max 60 (q + 1) = q + 1 by omega]
    iintro ⟨#HI, #Hlev, HO, Hsl, Hc, Hat, Ht⟩ Hk
    ihave H := (peel (storePos c) q (q + 1) _ (by omega) rfl) $$ Hat
    icases H with ⟨Hat1, Hat⟩
    ihave H := (peel (storeCred c) q (q + 1) _ (by omega) rfl) $$ Hc
    icases H with ⟨Hc1, Hc⟩
    iapply (wp_stored Y R K c Q q d (by omega) (by omega)) $$ [Hc1 Hat1 HO]
    · isplitr; · iexact HI
      isplitr; · iexact Hlev
      isplitl [Hc1]; · iexact Hc1
      isplitl [HO] <;> iassumption
    iintro ⟨HO, Hat1, Hok, Ht1, Hs⟩
    ihave Hat := (push (storePos c) (q + 1) (q + 8) (max 68 (q + 8 + 1)) (by omega) (by omega)) $$ [Hat1 Hat]
    · isplitl [Hat1]; · iexact Hat1
      rw [show max 68 (q + 8) = q + 8 by omega]; iexact Hat
    ihave Ht := (push (fun q => tileAt c q (R c)) 60 q (q + 1) (by omega) rfl) $$ [Ht1 Ht]
    · isplitl [Ht1] <;> iassumption
    iapply Hk
    isplitl [HO]; · iexact HO
    isplitl [Hok Hs]
    · unfold slotFor
      rw [et, show gs ((q + 8) / 4) = gs (q / 4) from Fin.ext (by show (q + 8) / 4 % 2 = q / 4 % 2; omega)]
      isplitl [Hok]; · iexact Hok
      iexists _; iexact Hs
    isplitl [Hsl]; · iapply (same (slotFor (F := F) c) (q + 8) 68 (q + 8 + 1) 68 (fun x => by omega)) $$ Hsl
    isplitl [Hc]; · iexact Hc
    isplitl [Hat] <;> iassumption
  · rw [if_neg (by omega), pure_bind]
    iintro ⟨-, -, HO, Hsl, Hc, Hat, Ht⟩ Hk
    ihave H := (peel (slotFor (F := F) c) p (p + 1) 68 (by omega) rfl) $$ Hsl
    icases H with ⟨Hsl1, Hsl⟩
    iapply Hk
    isplitl [HO]; · iexact HO
    isplitl [Hsl1]; · iexact Hsl1
    isplitl [Hsl]; · iexact Hsl
    isplitl [Hc]; · iapply (same (storeCred c) _ _ _ _ (fun x => by omega)) $$ Hc
    isplitl [Hat]; · iapply (same (storePos c) _ _ _ _ (fun x => by omega)) $$ Hat
    iapply (same (fun q => tileAt c q (R c)) _ _ _ _ (fun x => by omega)) $$ Ht

/-- The third part: the finished tile goes out through the staging buffer. -/
theorem wp_out {α : Type} (Q : α → sProp 𝕄) (p d : ℕ) (π : PosShare TreeShare) (h60 : 60 ≤ p) (hp : p < 124)
    (hR : (outM oM c (p / 4) (tq p)).view.read (Elt F) (R c) = Y c p) (k : PUnit → Pg F α) :
    iprop(invs Y R K ∗ levAts L lv ∗ debt c d ∗ stores R c p ∗ commAt c (tq p) (cs (p / 4)) π (Y c p))
      ⊢ iprop(((debt c d ∗ stores R c (p + 1) ∗ commAt c (tq p) (cs (p / 4)) π (Y c p)) -∗ WP c (k ⟨⟩) Q)
          -∗ WP c (stepOut oM (Memref.isWhole_whole _) cM gM (Memref.isWhole_whole _) cc0_scratch5 c (p / 4) (tq p) >>= k) Q) := by
  unfold stepOut stores
  rw [if_pos (by omega)]
  simp only [bind_assoc, wait_then]
  iintro ⟨#HI, #Hlev, HO, ⟨Hto, Hsl, Hc, Hat, Ht⟩, Hs⟩ Hk
  iapply (wp_loadComm c Q (tq p) (cs (p / 4)) π) $$ Hs
  iintro Hs
  iapply (wp_slot Y R K c Q p d h60 hp) $$ [HO Hsl Hc Hat Ht]
  · isplitr; · iexact HI
    isplitr; · iexact Hlev
    isplitl [HO]; · iexact HO
    isplitl [Hsl]; · iexact Hsl
    isplitl [Hc]; · iexact Hc
    isplitl [Hat] <;> iassumption
  iintro ⟨HO, Hsl1, Hsl, Hc, Hat, Ht⟩
  unfold slotFor
  icases Hsl1 with ⟨Hok, ⟨%X, Hst⟩⟩
  iapply (wp_loadStage c Q (tq p) (gs (p / 4)) X) $$ Hst
  iintro Hst
  rw [recast_unsq]
  iapply (wp_storeStage c Q (tq p) (gs (p / 4))) $$ Hst
  iintro Hst
  ihave H := (peel (fun q => iprop(storeTok c q ∗ ∃ f, tileAt (F := F) c q f)) p (p + 1) 124 hp rfl) $$ Hto
  icases H with ⟨⟨Htok, Hf⟩, Hto⟩
  iapply (wp_copyOut Y R K c Q p h60 hp hR) $$ [Hst Hf Htok Hok]
  · isplitr; · iexact HI
    isplitl [Hst]; · iexact Hst
    isplitl [Hf]; · iexact Hf
    isplitl [Htok] <;> iassumption
  iintro Hc1
  ihave Hc := (push (storeCred c) (max 60 (p + 1 - 8)) p (p + 1) (by omega) rfl) $$ [Hc1 Hc]
  · isplitl [Hc1] <;> iassumption
  iapply Hk
  isplitl [HO]; · iexact HO
  isplitl [Hto Hsl Hc Hat Ht]
  · isplitl [Hto]; · iexact Hto
    isplitl [Hsl]; · iexact Hsl
    isplitl [Hc]; · iexact Hc
    isplitl [Hat] <;> iassumption
  iexact Hs

/-- A step, given what its values are: from what the device holds before it to what it holds after it. -/
theorem wp_step {α : Type} (Q : α → sProp 𝕄) (p : ℕ) (h4 : 4 ≤ p) (hp : p < 124) (v : FVec F S256x1024 .f32)
    (hsum : p / 4 ≤ 15 → (if p / 4 ≤ 14 then accum (sub (tq p)) v (unsq (Y (src c (tq p)) (p - 4))) else accumRelu (sub (tq p)) v (unsq (Y (src c (tq p)) (p - 4)))) = unsq (Y c p))
    (hpass : ¬ p / 4 ≤ 15 → Y (src c (tq p)) (p - 4) = Y c p)
    (hR : 60 ≤ p → (outM oM c (p / 4) (tq p)).view.read (Elt F) (R c) = Y c p) (k : PUnit → Pg F α) :
    iprop(invs Y R K ∗ levAts L lv ∗ st Y R c p)
      ⊢ iprop((st Y R c (p + 1) -∗ WP c (k ⟨⟩) Q)
          -∗ WP c (step oM (Memref.isWhole_whole _) cM (Memref.isWhole_whole _) gM (Memref.isWhole_whole _) cc0_scratch3 cc0_scratch4 cc0_scratch5 c (p / 4) (tq p) v >>= k) Q) := by
  unfold step st landed
  simp only [bind_assoc]
  iintro ⟨#HI, #Hlev, Harr, HO, Hhop, Hsto, Hland⟩ Hk
  iapply (wp_acc Y R K c Q p h4 hp v hsum hpass) $$ [Harr HO]
  · isplitr; · iexact HI
    isplitr; · iexact Hlev
    isplitl [Harr] <;> iassumption
  iintro ⟨Harr, HO, Hok, Hg, Hs⟩
  by_cases h120 : p < 120
  · rw [show min p 120 = p by omega, show min (p + 1) 120 = p + 1 by omega]
    iapply (wp_pass Y R K c Q p h4 h120) $$ [HO Hhop Hok Hg Hs]
    · isplitr; · iexact HI
      isplitr; · iexact Hlev
      isplitl [HO]; · iexact HO
      isplitl [Hhop]; · iexact Hhop
      isplitl [Hok]; · iexact Hok
      isplitl [Hg] <;> iassumption
    iintro ⟨HO, Hs, Hhop⟩
    ihave Hland := (same (fun q => commAt c (tq q) (cs (q / 4)) fullShare (Y c q)) 120 p 120 (p + 1) (fun x => by omega)) $$ Hland
    by_cases h60 : 60 ≤ p
    · rw [show max p 60 = p by omega, show max (p + 1) 60 = p + 1 by omega]
      iapply (wp_out Y R K c Q p (p + 1) fullShare.right h60 hp (hR h60)) $$ [HO Hsto Hs]
      · isplitr; · iexact HI
        isplitr; · iexact Hlev
        isplitl [HO]; · iexact HO
        isplitl [Hsto] <;> iassumption
      iintro ⟨HO, Hsto, Hs⟩
      iapply Hk
      isplitl [Harr]; · iexact Harr
      isplitl [HO]; · iexact HO
      isplitl [Hhop Hs]; · iapply Hhop $$ Hs
      isplitl [Hsto]; · iexact Hsto
      iexact Hland
    · unfold stepOut
      rw [if_neg (by omega), pure_bind, show max p 60 = 60 by omega, show max (p + 1) 60 = 60 by omega]
      iapply Hk
      isplitl [Harr]; · iexact Harr
      isplitl [HO]; · iexact HO
      isplitl [Hhop Hs]; · iapply Hhop $$ Hs
      isplitl [Hsto]; · iexact Hsto
      iexact Hland
  · unfold stepSend
    rw [if_neg (by omega), pure_bind, show min p 120 = 120 by omega, show min (p + 1) 120 = 120 by omega, show max p 60 = p by omega,
      show max (p + 1) 60 = p + 1 by omega]
    iapply (wp_out Y R K c Q p 120 fullShare (by omega) hp (hR (by omega))) $$ [HO Hsto Hs]
    · isplitr; · iexact HI
      isplitr; · iexact Hlev
      isplitl [HO]; · iexact HO
      isplitl [Hsto] <;> iassumption
    iintro ⟨HO, Hsto, Hs⟩
    iapply Hk
    isplitl [Harr]; · iexact Harr
    isplitl [HO]; · iexact HO
    isplitl [Hhop]; · iexact Hhop
    isplitl [Hsto]; · iexact Hsto
    iapply (push (fun q => commAt c (tq q) (cs (q / 4)) fullShare (Y c q)) 120 p (p + 1) (by omega) rfl)
    isplitl [Hs] <;> iassumption

end Step

end Cert.RingProof

end
-- ==== Proof.Body.lean ====
/-
The body of the kernel, from what a device starts with to what it ends with.
-/
module

public import proofs.«01_k».proof.Proof.Step

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-! ## Runs of positions, split and shifted -/

/-- A run of positions moved by `k`. -/
theorem shift (Φ : ℕ → sProp 𝕄) (a b k : ℕ) : bigSep (Finset.Ico (a + k) (b + k)) Φ = bigSep (Finset.Ico a b) fun q => Φ (q + k) := by
  rw [show Finset.Ico (a + k) (b + k) = (Finset.Ico a b).map ⟨(· + k), fun x y h => Nat.add_right_cancel h⟩ from Finset.ext fun x => by
    rw [Finset.mem_map, Finset.mem_Ico]
    constructor
    · intro h; exact ⟨x - k, Finset.mem_Ico.mpr (by omega), show x - k + k = x by omega⟩
    · rintro ⟨y, hy, rfl⟩; rw [Finset.mem_Ico] at hy; show a + k ≤ y + k ∧ y + k < b + k; omega, bigSep_map]
  rfl

/-- A run of positions is two shorter ones. -/
theorem join (Φ : ℕ → sProp 𝕄) (a b d : ℕ) (h1 : a ≤ b) (h2 : b ≤ d) :
    bigSep (Finset.Ico a d) Φ = iprop(bigSep (Finset.Ico a b) Φ ∗ bigSep (Finset.Ico b d) Φ) := by
  rw [← Finset.Ico_union_Ico_eq_Ico h1 h2, bigSep_union (Finset.Ico_disjoint_Ico_consecutive a b d)]
  rfl

/-- A run of pairs is a pair of runs. -/
theorem both (s : Finset ℕ) (Φ Ψ : ℕ → sProp 𝕄) : bigSep s (fun q => iprop(Φ q ∗ Ψ q)) = iprop(bigSep s Φ ∗ bigSep s Ψ) := bigSep_sep s Φ Ψ

/-- The even positions and the odd ones. -/
theorem parity (Φ : ℕ → sProp 𝕄) (n : ℕ) :
    bigSep (Finset.Ico 0 (2 * n)) Φ
      ⊣⊢ iprop((bigSep (Finset.Ico 0 n) fun i => Φ (2 * i)) ∗ bigSep (Finset.Ico 0 n) fun i => Φ (2 * i + 1)) := by
  induction n with
  | zero => exact (sep_emp (PROP := sProp 𝕄)).symm
  | succ n ih =>
    rw [show 2 * (n + 1) = 2 * n + 1 + 1 by omega, bigSep_Ico_succ_top (by omega), bigSep_Ico_succ_top (by omega), bigSep_Ico_succ_top (by omega), bigSep_Ico_succ_top (by omega)]
    constructor
    · iintro ⟨H1, H2, H3⟩
      ihave H := ih.1 $$ H3
      icases H with ⟨H3, H4⟩
      isplitl [H2 H3]
      · isplitl [H2] <;> iassumption
      · isplitl [H1] <;> iassumption
    · iintro ⟨⟨H1, H2⟩, ⟨H3, H4⟩⟩
      isplitl [H3]; · iexact H3
      isplitl [H1]; · iexact H1
      iapply ih.2
      isplitl [H2] <;> iassumption

section Body

variable (Y : Dev nD → ℕ → Tile F)
variable (R : (c : Dev nD) → Buf (Elt F) ((oM : Memref sig .tc .hbm S4096x2048 .bf16).view.loc (c : Thread nD τ)))
variable (K : Dev nD × Fin 49 → ℕ)
variable (fx : Dev nD → (cc0_stg0_0 : Ref sig .tc).ty.Contents (Elt F)) (fw : Dev nD → (cc0_stg1_0 : Ref sig .tc).ty.Contents (Elt F))
variable (c : Dev nD)

/-! ## The inputs -/

/-- Device `c` holds its block of `x`. -/
def xPts : sProp 𝕄 := ((c : Thread nD τ).loc cc0_stg0_0) ↦{fullShare} (fx c)
/-- Device `c` holds its block of `w`. -/
def wPts : sProp 𝕄 := ((c : Thread nD τ).loc cc0_stg1_0) ↦{fullShare} (fw c)
/-- Device `c` holds the working copy, with the contents `f`. -/
def kPts (f : (cc0_scratch0 : Ref sig .tc).ty.Contents (Elt F)) : sProp 𝕄 := ((c : Thread nD τ).loc cc0_scratch0) ↦{fullShare} f

/-- The product of iteration `h`: of the even rings, and of the odd ones. -/
def prodAt (h : ℕ) (o : Bool) : FVec F S256x1024 .f32 :=
  prod ((xM : Memref sig .tc .vmem S4096x256 .bf16).view.readAt (Elt F) (xR c h o).toLoadRect (fx c))
    (bif o then (kM : Memref sig .tc .vmem S256x2048 .bf16).view.readAt (Elt F) wR1.toLoadRect (k0_pay1 (fw c))
      else (kM : Memref sig .tc .vmem S256x2048 .bf16).view.readAt (Elt F) wR0.toLoadRect (k0_pay1 (fw c)))

/-- The product of the step of position `q`. -/
def prodOf (q : ℕ) : FVec F S256x1024 .f32 :=
  if q / 4 ≤ 15 then prodAt fx fw c (q / 4) (decide (q % 2 = 1)) else constant S256x1024 .f32 0x00000000#32

/-- The values fit: the first tiles are rounded products, each later one is the one received with the product added
    (and at last the maximum with zero), or the one received; the result holds each finished tile at its place. -/
structure Fits : Prop where
  start : ∀ c q, q < 4 → first (sub (tq q)) (prodOf fx fw c q) = unsq (Y c q)
  sum : ∀ c p, 4 ≤ p → p / 4 ≤ 15 → (if p / 4 ≤ 14 then accum (sub (tq p)) (prodOf fx fw c p) (unsq (Y (src c (tq p)) (p - 4))) else accumRelu (sub (tq p)) (prodOf fx fw c p) (unsq (Y (src c (tq p)) (p - 4)))) = unsq (Y c p)
  pass : ∀ c p, ¬ p / 4 ≤ 15 → Y (src c (tq p)) (p - 4) = Y c p
  out : ∀ c p, 60 ≤ p → p < 124 → (outM oM c (p / 4) (tq p)).view.read (Elt F) (R c) = Y c p

/-- The products of iteration `h` are the two of `prodAt`, and the buffers stay as they are. -/
theorem wp_products {α : Type} (Q : α → sProp 𝕄) (h : ℕ) (hh : h ≤ 15) (k : FVec F S256x1024 .f32 × FVec F S256x1024 .f32 → Pg F α) :
    iprop(xPts fx c ∗ kPts c (k0_pay1 (fw c)))
      ⊢ iprop(((xPts fx c ∗ kPts c (k0_pay1 (fw c))) -∗ WP c (k (prodAt fx fw c h false, prodAt fx fw c h true)) Q) -∗ WP c (products xM kM c h >>= k) Q) := by
  unfold products xPts kPts prodAt
  simp only [bind_assoc, pure_bind, Prog.lift, Prog.bind_op, Prog.bind_ret, cond_false, cond_true]
  iintro ⟨Hx, Hk⟩ Hc
  iapply (wp_load 𝒱₀ (c : Thread nD τ) none Set.univ (m := xM) (r := (xR c h false).toLoadRect) (Finset.subset_univ _)) $$ Hx; iintro Hx
  iapply (wp_load 𝒱₀ (c : Thread nD τ) none Set.univ (m := kM) (r := wR0.toLoadRect) (Finset.subset_univ _)) $$ Hk; iintro Hk
  iapply (wp_load 𝒱₀ (c : Thread nD τ) none Set.univ (m := xM) (r := (xR c h true).toLoadRect) (Finset.subset_univ _)) $$ Hx; iintro Hx
  iapply (wp_load 𝒱₀ (c : Thread nD τ) none Set.univ (m := kM) (r := wR1.toLoadRect) (Finset.subset_univ _)) $$ Hk; iintro Hk
  iapply Hc
  isplitl [Hx] <;> iassumption

/-! ## The iterations -/

/-- The step of position `p`, named by its iteration and its ring, takes what the device holds at `p` to what it holds
    at `p + 1`. -/
theorem wp_stepAt {α : Type} (hF : Fits Y R fx fw) (Q : α → sProp 𝕄) (p h : ℕ) (t : Fin 4) (v : FVec F S256x1024 .f32)
    (h4 : 4 ≤ p) (hp : p < 124) (eh : h = p / 4) (et : t = tq p) (ev : v = prodOf fx fw c p) (k : PUnit → Pg F α) :
    iprop(invs Y R K ∗ levAts L lv ∗ st Y R c p)
      ⊢ iprop((st Y R c (p + 1) -∗ WP c (k ⟨⟩) Q)
          -∗ WP c (step oM (Memref.isWhole_whole _) cM (Memref.isWhole_whole _) gM (Memref.isWhole_whole _) cc0_scratch3 cc0_scratch4 cc0_scratch5 c h t v >>= k) Q) := by
  subst eh et ev
  exact wp_step Y R K c Q p h4 hp _ (hF.sum c p h4) (hF.pass c p) (fun h60 => hF.out c p h60 hp) k

/-- The four steps of an iteration, given its products, go from its first position to the next iteration's. -/
theorem wp_steps {α : Type} (hF : Fits Y R fx fw) (Q : α → sProp 𝕄) (h : ℕ) (h1 : 1 ≤ h) (h30 : h ≤ 30) (v0 v1 : FVec F S256x1024 .f32)
    (e0 : ∀ q, q / 4 = h → q % 2 = 0 → v0 = prodOf fx fw c q) (e1 : ∀ q, q / 4 = h → q % 2 = 1 → v1 = prodOf fx fw c q) (k : PUnit → Pg F α) :
    iprop(invs Y R K ∗ levAts L lv ∗ st Y R c (4 * h))
      ⊢ iprop((st Y R c (4 * (h + 1)) -∗ WP c (k ⟨⟩) Q)
          -∗ WP c (steps oM (Memref.isWhole_whole _) cM (Memref.isWhole_whole _) gM (Memref.isWhole_whole _) cc0_scratch3 cc0_scratch4 cc0_scratch5 c h v0 v1 >>= k) Q) := by
  unfold steps
  simp only [bind_assoc]
  iintro ⟨#HI, #Hlev, Hst⟩ Hk
  iapply (wp_stepAt Y R K fx fw c hF Q (4 * h) h 0 v0 (by omega) (by omega) (by omega) (Fin.ext (by show 0 = 4 * h % 4; omega)) (e0 _ (by omega) (by omega))) $$ [Hst]
  · isplitr; · iexact HI
    isplitr; · iexact Hlev
    iexact Hst
  iintro Hst
  iapply (wp_stepAt Y R K fx fw c hF Q (4 * h + 1) h 1 v1 (by omega) (by omega) (by omega) (Fin.ext (by show 1 = (4 * h + 1) % 4; omega)) (e1 _ (by omega) (by omega))) $$ [Hst]
  · isplitr; · iexact HI
    isplitr; · iexact Hlev
    iexact Hst
  iintro Hst
  iapply (wp_stepAt Y R K fx fw c hF Q (4 * h + 1 + 1) h 2 v0 (by omega) (by omega) (by omega) (Fin.ext (by show 2 = (4 * h + 1 + 1) % 4; omega)) (e0 _ (by omega) (by omega))) $$ [Hst]
  · isplitr; · iexact HI
    isplitr; · iexact Hlev
    iexact Hst
  iintro Hst
  iapply (wp_stepAt Y R K fx fw c hF Q (4 * h + 1 + 1 + 1) h 3 v1 (by omega) (by omega) (by omega) (Fin.ext (by show 3 = (4 * h + 1 + 1 + 1) % 4; omega)) (e1 _ (by omega) (by omega))) $$ [Hst]
  · isplitr; · iexact HI
    isplitr; · iexact Hlev
    iexact Hst
  rw [show 4 * (h + 1) = 4 * h + 1 + 1 + 1 + 1 by omega]
  iexact Hk

/-- An iteration goes from its first position to the next iteration's. -/
theorem wp_iter {α : Type} (hF : Fits Y R fx fw) (Q : α → sProp 𝕄) (h : ℕ) (h1 : 1 ≤ h) (h30 : h ≤ 30) (k : PUnit → Pg F α) :
    iprop(invs Y R K ∗ levAts L lv ∗ xPts fx c ∗ kPts c (k0_pay1 (fw c)) ∗ st Y R c (4 * h))
      ⊢ iprop(((xPts fx c ∗ kPts c (k0_pay1 (fw c)) ∗ st Y R c (4 * (h + 1))) -∗ WP c (k ⟨⟩) Q)
          -∗ WP c (iter xM oM (Memref.isWhole_whole _) kM cM (Memref.isWhole_whole _) gM (Memref.isWhole_whole _) cc0_scratch3 cc0_scratch4 cc0_scratch5 c h >>= k) Q) := by
  unfold iter
  iintro ⟨#HI, #Hlev, Hx, Hw, Hst⟩ Hk
  by_cases h15 : h ≤ 15
  · rw [if_pos h15]
    simp only [bind_assoc]
    iapply (wp_products fx fw c Q h h15) $$ [Hx Hw]
    · isplitl [Hx] <;> iassumption
    iintro ⟨Hx, Hw⟩
    iapply (wp_steps Y R K fx fw c hF Q h h1 h30 _ _
      (fun q hq ho => by unfold prodOf; rw [hq, if_pos h15, decide_eq_false (by omega)])
      (fun q hq ho => by unfold prodOf; rw [hq, if_pos h15, decide_eq_true ho])) $$ [Hst]
    · isplitr; · iexact HI
      isplitr; · iexact Hlev
      iexact Hst
    iintro Hst
    iapply Hk
    isplitl [Hx]; · iexact Hx
    isplitl [Hw] <;> iassumption
  · rw [if_neg h15]
    iapply (wp_steps Y R K fx fw c hF Q h h1 h30 _ _
      (fun q hq ho => by unfold prodOf; rw [hq, if_neg h15])
      (fun q hq ho => by unfold prodOf; rw [hq, if_neg h15])) $$ [Hst]
    · isplitr; · iexact HI
      isplitr; · iexact Hlev
      iexact Hst
    iintro Hst
    iapply Hk
    isplitl [Hx]; · iexact Hx
    isplitl [Hw] <;> iassumption

/-- So do `n` iterations in a row. -/
theorem wp_iters {α : Type} (hF : Fits Y R fx fw) (Q : α → sProp 𝕄) (k : PUnit → Pg F α) (n : ℕ) : ∀ h, 1 ≤ h → h + n ≤ 31 →
    iprop(invs Y R K ∗ levAts L lv ∗ xPts fx c ∗ kPts c (k0_pay1 (fw c)) ∗ st Y R c (4 * h))
      ⊢ iprop(((xPts fx c ∗ kPts c (k0_pay1 (fw c)) ∗ st Y R c (4 * (h + n))) -∗ WP c (k ⟨⟩) Q)
          -∗ WP c (iters xM oM (Memref.isWhole_whole _) kM cM (Memref.isWhole_whole _) gM (Memref.isWhole_whole _) cc0_scratch3 cc0_scratch4 cc0_scratch5 c n h >>= k) Q) := by
  induction n with
  | zero =>
    intro h h1 h31
    unfold iters
    rw [pure_bind]
    iintro ⟨#HI, #Hlev, H⟩ Hk
    iapply Hk $$ H
  | succ n ih =>
    intro h h1 h31
    unfold iters
    simp only [bind_assoc]
    iintro ⟨#HI, #Hlev, H⟩ Hk
    iapply (wp_iter Y R K fx fw c hF Q h h1 (by omega)) $$ [H]
    · isplitr; · iexact HI
      isplitr; · iexact Hlev
      iexact H
    iintro H
    iapply (ih (h + 1) (by omega) (by omega)) $$ [H]
    · isplitr; · iexact HI
      isplitr; · iexact Hlev
      iexact H
    rw [show h + 1 + n = h + (n + 1) by omega]
    iexact Hk

end Body

end Cert.RingProof

end
-- ==== Proof.Ends.lean ====
/-
The start and the end of the body: the handshake and the first hops; the waits for the last hops and stores.
-/
module

public import proofs.«01_k».proof.Proof.Body

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

section Ends

variable (Y : Dev nD → ℕ → Tile F)
variable (R : (c : Dev nD) → Buf (Elt F) ((oM : Memref sig .tc .hbm S4096x2048 .bf16).view.loc (c : Thread nD τ)))
variable (K : Dev nD × Fin 49 → ℕ)
variable (fx : Dev nD → (cc0_stg0_0 : Ref sig .tc).ty.Contents (Elt F)) (fw : Dev nD → (cc0_stg1_0 : Ref sig .tc).ty.Contents (Elt F))
variable (c : Dev nD)

/-! ## The copy of `w` and the first tiles -/

omit [FloatOps F] in
/-- The corner of a whole buffer is zero on both axes. -/
theorem origin : (![0, 0] : Fin 2 → Nat) = fun _ => 0 := funext fun a => by fin_cases a <;> rfl

/-- The first step leaves the working copy with what it read of `w`. -/
theorem wp_copyW {α : Type} (Q : α → sProp 𝕄) (k : PUnit → Pg F α) :
    iprop(wPts fw c ∗ ∃ f, kPts c f)
      ⊢ iprop(((wPts fw c ∗ kPts c (k0_pay1 (fw c))) -∗ WP c (k ⟨⟩) Q) -∗ WP c (copyW wM kM (Memref.isWhole_whole _) >>= k) Q) := by
  unfold copyW wPts kPts
  simp only [bind_assoc, Prog.lift, Prog.bind_op, Prog.bind_ret]
  iintro ⟨Hw, ⟨%f, Hk⟩⟩ Hc
  iapply (wp_load 𝒱₀ (c : Thread nD τ) none Set.univ (m := wM) (Finset.subset_univ _)) $$ Hw; iintro Hw
  rw [show (wM : Memref sig .tc .vmem S256x2048 .bf16).view.readAt (Elt F) (Rect.unit (s := S256x2048) ![0, 0] S256x2048.size inb_S256x2048_S256x2048_0_0).toLoadRect (fw c) = fw c from
    Memref.readAt_unit_zero (Elt F) cc0_stg1_0 origin _ (fw c)]
  iapply (wp_load 𝒱₀ (c : Thread nD τ) none Set.univ (m := kM) (Finset.subset_univ _)) $$ Hk; iintro Hk
  iapply (wp_store 𝒱₀ (c : Thread nD τ) none Set.univ (m := kM) (r := Rect.unit (s := S256x2048) ![0, 0] S256x2048.size inb_S256x2048_S256x2048_0_0) (Mk := Finset.univ) (Finset.subset_univ _)) $$ Hk; iintro Hk
  rw [show ((kM : Memref sig .tc .vmem S256x2048 .bf16).access (Rect.unit (s := S256x2048) ![0, 0] S256x2048.size inb_S256x2048_S256x2048_0_0) : View sig .tc _ _ _).write (Elt F) f (k0_pay1 (fw c)) Finset.univ = k0_pay1 (fw c) from
    Memref.write_access_unit_zero_univ (Elt F) cc0_scratch0 origin _ f _]
  iapply Hc
  isplitl [Hw] <;> iassumption

/-- The slot into which a hop of position `q` to `c` goes, whatever it holds. -/
def spot (q : ℕ) : sProp 𝕄 := iprop(∃ X : Tile F, commAt c (tq q) (cs (q / 4 + 1)) fullShare X)

omit [FloatOps F] in
/-- The first four positions use slot 0. -/
theorem slot_zero (q : ℕ) (h : q < 4) : cs (q / 4) = 0 := Fin.ext (by show q / 4 % 5 = 0; omega)
omit [FloatOps F] in
/-- Positions sixteen apart are on the same ring. -/
theorem tq_sixteen (q : ℕ) : tq (q + 16) = tq q := Fin.ext (by show (q + 16) % 4 = q % 4; omega)

/-- A ring's own first tile goes into slot 0. -/
theorem wp_seed {α : Type} (hF : Fits Y R fx fw) (Q : α → sProp 𝕄) (q : ℕ) (hq : q < 4) (t : Fin 4) (v : FVec F S256x1024 .f32)
    (et : t = tq q) (ev : v = prodOf fx fw c q) (k : PUnit → Pg F α) :
    (spot c (q + 16) : sProp 𝕄) ⊢ iprop((commAt c (tq q) (cs (q / 4)) fullShare (Y c q) -∗ WP c (k ⟨⟩) Q)
        -∗ WP c (seed cM (Memref.isWhole_whole _) t v >>= k) Q) := by
  subst et ev
  unfold seed spot
  simp only [bind_assoc]
  rw [tq_sixteen, show cs ((q + 16) / 4 + 1) = 0 from Fin.ext (by show ((q + 16) / 4 + 1) % 5 = 0; omega), slot_zero q hq, show cs 0 = 0 from rfl, hF.start c q hq]
  iintro ⟨%X, Hs⟩ Hk
  iapply (wp_loadComm c Q (tq q) 0 fullShare X) $$ Hs
  iintro Hs
  iapply (wp_storeComm c Q (tq q) 0 X (Y c q)) $$ Hs
  iexact Hk

/-! ## The handshake -/

/-- A slot for a hop of the first four iterations, with its round. -/
def avail (q : ℕ) : sProp 𝕄 := iprop(spot c q ∗ recvOk c q)

/-- What a device has for the handshake. -/
def ready : sProp 𝕄 :=
  iprop((∃ W, owes (c : Thread nD τ) (O₀ c) W)
    ∗ dutyTok ER (barCell (dst c 1)) 0 false ∗ dutyTok ER (barCell (dst c 0)) 0 true
    ∗ reached ER (barCell (dst c 1)) 0 ∗ reached ER (barCell (dst c 0)) 0
    ∗ cred (tallyAt (barCell c) 0 2) ∗ atPos ER (barCell c) 0 ∅ 0)

/-- A free slot, its round reached, is room for the neighbour that sends into it. -/
theorem avail_room (q : ℕ) (t : Fin 4) (h : t.val % 2 ≠ q % 2) : avail c q ⊢ (room (dst c t) q : sProp 𝕄) := by
  unfold avail room spot recvOk
  rw [dst_back c t (tq q) (by show t.val % 2 ≠ q % 4 % 2; omega)]

/-- What a device has free at the start is what its two signals bring to its neighbours. -/
theorem offer : bigSep (Finset.Ico 0 16) (avail (F := F) c) ⊢ (iprop(barPay (dst c 1) false ∗ barPay (dst c 0) true) : sProp 𝕄) := by
  refine (parity (avail c) 8).1.trans (BIClass.sep_mono ?_ ?_)
  · unfold barPay
    exact bigSep_mono fun i _ => avail_room c _ 1 (by show 1 % 2 ≠ 2 * i % 2; omega)
  · unfold barPay
    exact bigSep_mono fun i _ => avail_room c _ 0 (by show 0 % 2 ≠ (2 * i + 1) % 2; omega)

/-- What both neighbours' signals bring is room for the first sixteen hops. -/
theorem taken : iprop(barPay c false ∗ barPay c true) ⊢ (bigSep (Finset.Ico 0 16) (room (F := F) c) : sProp 𝕄) := (parity (room c) 8).2

/-- The handshake in terms of the neighbours' directions. -/
theorem handshake_eq : handshake (F := F) c
    = (do semSignalWord (dst c 1) barS 1#32; semSignalWord (dst c 0) barS 1#32; semWaitWord barS 2#32) := rfl

/-- The handshake gives away the device's first sixteen slots and yields room for its first sixteen hops. -/
theorem wp_handshake {α : Type} (Q : α → sProp 𝕄) (k : PUnit → Pg F α) :
    iprop(invs Y R K ∗ levAts L lv ∗ ready c ∗ bigSep (Finset.Ico 0 16) (avail (F := F) c))
      ⊢ iprop(((debt c 0 ∗ atPos ER (barCell c) 1 ∅ 0 ∗ bigSep (Finset.Ico 0 16) (room (F := F) c)) -∗ WP c (k ⟨⟩) Q)
        -∗ WP c (handshake c >>= k) Q) := by
  rw [handshake_eq]
  simp only [semSignalWord, semWaitWord, Prog.lift, Prog.bind_op, Prog.bind_ret]
  unfold ready debt
  iintro ⟨#HI, #Hlev, ⟨⟨%W, HO⟩, Ht1, Ht0, #Hr1, #Hr0, Hc, Hat⟩, Hav⟩ Hk
  ihave Hav := (offer c) $$ Hav
  icases Hav with ⟨Hp1, Hp0⟩
  ihave Hinv := (inv_of Y R K (dst c 1) _ ⟨0, csem_bar⟩) $$ HI
  icases Hinv with ⟨%κ₁, #Hinv1⟩
  ihave Hinv := (inv_of Y R K (dst c 0) _ ⟨0, csem_bar⟩) $$ HI
  icases Hinv with ⟨%κ₀, #Hinv0⟩
  ihave Hinv := (inv_of Y R K c _ ⟨0, csem_bar⟩) $$ HI
  icases Hinv with ⟨%κ, #Hinv⟩
  iapply (Rounds.wp_signal 𝒱₀ ER (ringRd Y R) (c : Thread nD τ) none (dst := (dst c 1 : Thread nD τ)) (κ := κ₁)
      (d := false) (by rw [duties_bar]; exact Finset.mem_univ _) ((amount_bar Y R (dst c 1) 0 false).trans (by decide)) 0 (O₁ c) rfl) $$ [HO Ht1 Hp1]
  · isplitr; · iexact Hinv1
    isplitl [HO]; · iexact HO
    isplitl [Ht1]; · iexact Ht1
    isplitl [Hp1]; · rw [payload_bar]; iexact Hp1
    iexact Hr1
  iintro HO
  iapply (Rounds.wp_signal 𝒱₀ ER (ringRd Y R) (c : Thread nD τ) none (dst := (dst c 0 : Thread nD τ)) (κ := κ₀)
      (d := true) (by rw [duties_bar]; exact Finset.mem_univ _) ((amount_bar Y R (dst c 0) 0 true).trans (by decide)) 0 (sends c 0) rfl) $$ [HO Ht0 Hp0]
  · isplitr; · iexact Hinv0
    isplitl [HO]; · iexact HO
    isplitl [Ht0]; · iexact Ht0
    isplitl [Hp0]; · rw [payload_bar]; iexact Hp0
    iexact Hr0
  iintro HO
  iapply (Rounds.wp_wait_rest_token 𝒱₀ ER (ringRd Y R) (c : Thread nD τ) none (κ := κ)
      (wpE_semWait_eq 𝒱₀ (c : Thread nD τ) none Set.univ) (Set.mem_univ _) 0 (O := sends c 0) (W := W) (R := 0) (m := 0) (T := ∅)
      (by rw [expect_bar]; decide)) $$ [Hc HO Hat]
  · isplitr; · iexact Hinv
    isplitl [Hc]; · iexact Hc
    isplitl [HO]; · iexact HO
    isplitr; · iapply (mayWait_sends c _ 0 0 (by decide) (by rw [lv_bar]; decide)); iexact Hlev
    iexact Hat
  iintro ⟨HO, Hat, -, Hpay⟩
  ihave Hp := (Entails.of_eq (rest_bar Y R c)) $$ Hpay
  ihave Hp := (taken c) $$ Hp
  iapply Hk
  isplitl [HO]; · iexists _; iexact HO
  isplitl [Hat] <;> iassumption

/-! ## The first four hops -/

/-- Before the first hop of position `p`. -/
def leaving (p : ℕ) : sProp 𝕄 :=
  iprop(debt c p ∗ bigSep (Finset.Ico p 120) (sendTok c) ∗ bigSep (Finset.Ico p 20) (sendOk c) ∗ bigSep (Finset.Ico 0 p) (away Y c)
    ∗ bigSep (Finset.Ico p 16) (room (F := F) c))

/-- The hop of one of the first four positions starts. -/
theorem wp_leave {α : Type} (Q : α → sProp 𝕄) (p : ℕ) (hp : p < 4) (t : Fin 4) (et : t = tq p) (k : PUnit → Pg F α) :
    iprop(invs Y R K ∗ leaving Y c p ∗ commAt c (tq p) (cs (p / 4)) fullShare (Y c p))
      ⊢ iprop((leaving Y c (p + 1) -∗ WP c (k ⟨⟩) Q)
        -∗ WP c (send cM (Memref.isWhole_whole _) cc0_scratch3 cc0_scratch4 c 0 t >>= k) Q) := by
  subst et
  rw [show (0 : ℕ) = p / 4 by omega]
  rw [show send cM (Memref.isWhole_whole _) cc0_scratch3 cc0_scratch4 c (p / 4) (tq p) = send (F := F) cM (Memref.isWhole_whole _) cc0_scratch3 cc0_scratch4 c (p / 4) (tq p) from rfl]
  unfold leaving
  iintro ⟨#HI, ⟨HO, Htok, Hok, Haw, Hroom⟩, Hs⟩ Hk
  ihave H := (peel (sendTok c) p (p + 1) 120 (by omega) rfl) $$ Htok
  icases H with ⟨Htok1, Htok⟩
  ihave H := (peel (sendOk c) p (p + 1) 20 (by omega) rfl) $$ Hok
  icases H with ⟨Hok1, Hok⟩
  ihave H := (peel (room c) p (p + 1) 16 (by omega) rfl) $$ Hroom
  icases H with ⟨Hroom1, Hroom⟩
  iapply (wp_hop Y R K c Q p (by omega)) $$ [Hs Hroom1 HO Htok1 Hok1]
  · isplitr; · iexact HI
    isplitl [Hs]; · iexact Hs
    isplitl [Hroom1]; · iexact Hroom1
    isplitr; · unfold grant; rw [if_neg (by omega)]; iempintro
    isplitl [HO]; · iexact HO
    isplitl [Htok1] <;> iassumption
  iintro ⟨Hc, HO, Hr⟩
  iapply Hk
  isplitl [HO]; · iexact HO
  isplitl [Htok]; · iexact Htok
  isplitl [Hok]; · iexact Hok
  isplitl [Haw Hc Hr]
  · iapply (push (away Y c) _ p (p + 1) (by omega) rfl)
    isplitl [Hc Hr]
    · unfold away; isplitl [Hc] <;> iassumption
    · iexact Haw
  iexact Hroom

/-! ## The prologue -/

/-- What a device has at the start, besides its inputs. -/
def begins : sProp 𝕄 :=
  iprop((∃ f, kPts c f) ∗ ready c ∗ bigSep (Finset.Ico 0 16) (avail (F := F) c) ∗ bigSep (Finset.Ico 16 20) (spot (F := F) c)
    ∗ bigSep (Finset.Ico 16 20) (recvOk (F := F) c) ∗ bigSep (Finset.Ico 0 120) (recvCred (F := F) c)
    ∗ bigSep (Finset.Ico 0 20) (recvPos (F := F) c) ∗ bigSep (Finset.Ico 0 120) (sendTok (F := F) c)
    ∗ bigSep (Finset.Ico 0 20) (sendOk (F := F) c) ∗ bigSep (Finset.Ico 0 20) (sendPos (F := F) c) ∗ stores R c 60)

/-- The even rings' product of iteration 0 is the one of their positions. -/
theorem prodOf_even (q : ℕ) (h : q < 4) (ho : q % 2 = 0) : prodAt fx fw c 0 false = prodOf fx fw c q := by
  unfold prodOf; rw [show q / 4 = 0 by omega, if_pos (by omega), decide_eq_false (by omega)]
/-- The odd rings' product of iteration 0 is the one of their positions. -/
theorem prodOf_odd (q : ℕ) (h : q < 4) (ho : q % 2 = 1) : prodAt fx fw c 0 true = prodOf fx fw c q := by
  unfold prodOf; rw [show q / 4 = 0 by omega, if_pos (by omega), decide_eq_true ho]

/-- The beginning of the body goes from what the device has at the start to what it holds at position 4. -/
theorem wp_prologue {α : Type} (hF : Fits Y R fx fw) (Q : α → sProp 𝕄) (k : PUnit → Pg F α) :
    iprop(invs Y R K ∗ levAts L lv ∗ xPts fx c ∗ wPts fw c ∗ begins R c)
      ⊢ iprop(((xPts fx c ∗ wPts fw c ∗ kPts c (k0_pay1 (fw c)) ∗ atPos ER (barCell c) 1 ∅ 0 ∗ st Y R c 4) -∗ WP c (k ⟨⟩) Q)
        -∗ WP c (prologue xM wM kM (Memref.isWhole_whole _) cM (Memref.isWhole_whole _) cc0_scratch3 cc0_scratch4 c >>= k) Q) := by
  unfold prologue begins
  simp only [bind_assoc]
  iintro ⟨#HI, #Hlev, Hx, Hw, Hkf, Hready, Hav, Hsp, Hok, Hrc, Hrp, Htok, Hsok, Hsp', Hst⟩ Hk
  iapply (wp_copyW fw c Q) $$ [Hw Hkf]
  · isplitl [Hw] <;> iassumption
  iintro ⟨Hw, Hkf⟩
  iapply (wp_products fx fw c Q 0 (by omega)) $$ [Hx Hkf]
  · isplitl [Hx] <;> iassumption
  iintro ⟨Hx, Hkf⟩
  ihave H := (peel (spot c) 16 (0 + 16 + 1) 20 (by omega) rfl) $$ Hsp
  icases H with ⟨Hs0, Hsp⟩
  ihave H := (peel (spot c) (1 + 16) (1 + 16 + 1) 20 (by omega) rfl) $$ Hsp
  icases H with ⟨Hs1, Hsp⟩
  ihave H := (peel (spot c) (2 + 16) (2 + 16 + 1) 20 (by omega) rfl) $$ Hsp
  icases H with ⟨Hs2, Hsp⟩
  ihave H := (peel (spot c) (3 + 16) (3 + 16 + 1) 20 (by omega) rfl) $$ Hsp
  icases H with ⟨Hs3, -⟩
  iapply (wp_seed Y R fx fw c hF Q 0 (by omega) 0 _ rfl (prodOf_even fx fw c 0 (by omega) rfl)) $$ Hs0
  iintro Hs0
  iapply (wp_seed Y R fx fw c hF Q 1 (by omega) 1 _ rfl (prodOf_odd fx fw c 1 (by omega) rfl)) $$ Hs1
  iintro Hs1
  iapply (wp_seed Y R fx fw c hF Q 2 (by omega) 2 _ rfl (prodOf_even fx fw c 2 (by omega) rfl)) $$ Hs2
  iintro Hs2
  iapply (wp_seed Y R fx fw c hF Q 3 (by omega) 3 _ rfl (prodOf_odd fx fw c 3 (by omega) rfl)) $$ Hs3
  iintro Hs3
  iapply (wp_handshake Y R K c Q) $$ [Hready Hav]
  · isplitr; · iexact HI
    isplitr; · iexact Hlev
    isplitl [Hready] <;> iassumption
  iintro ⟨HO, Hbar, Hroom⟩
  iapply (wp_leave Y R K c Q 0 (by omega) 0 rfl) $$ [HO Htok Hsok Hroom Hs0]
  · isplitr; · iexact HI
    isplitr [Hs0]
    · unfold leaving
      isplitl [HO]; · iexact HO
      isplitl [Htok]; · iexact Htok
      isplitl [Hsok]; · iexact Hsok
      isplitr [Hroom]
      · rw [Finset.Ico_self, bigSep_empty]; iempintro
      iexact Hroom
    iexact Hs0
  iintro Hl
  iapply (wp_leave Y R K c Q 1 (by omega) 1 rfl) $$ [Hl Hs1]
  · isplitr; · iexact HI
    isplitl [Hl] <;> iassumption
  iintro Hl
  iapply (wp_leave Y R K c Q 2 (by omega) 2 rfl) $$ [Hl Hs2]
  · isplitr; · iexact HI
    isplitl [Hl] <;> iassumption
  iintro Hl
  iapply (wp_leave Y R K c Q 3 (by omega) 3 rfl) $$ [Hl Hs3]
  · isplitr; · iexact HI
    isplitl [Hl] <;> iassumption
  unfold leaving
  iintro ⟨HO, Htok, Hsok, Haw, Hroom⟩
  iapply Hk
  isplitl [Hx]; · iexact Hx
  isplitl [Hw]; · iexact Hw
  isplitl [Hkf]; · iexact Hkf
  isplitl [Hbar]; · iexact Hbar
  unfold st arrivals hops departures rooms rounds held kept landed
  isplitl [Hrc Hrp]; · isplitl [Hrc] <;> iassumption
  isplitl [HO]; · iexact HO
  isplitr [Hst]
  · isplitl [Htok]; · iexact Htok
    isplitl [Hsok Hsp' Haw]
    · isplitl [Hsok]; · iexact Hsok
      isplitl [Hsp']; · iexact Hsp'
      iexact Haw
    isplitl [Hroom]; · iexact Hroom
    isplitl [Hok]; · iexact Hok
    isplitr
    · rw [if_neg (by omega)]; iempintro
    · rw [Finset.Ico_eq_empty_of_le (by omega), bigSep_empty]; iempintro
  isplitl [Hst]; · iexact Hst
  rw [Finset.Ico_eq_empty_of_le (by omega), bigSep_empty]; iempintro

/-! ## The epilogue -/

/-- A hop of the last eight, before the wait for its source. -/
def leftover (q : ℕ) : sProp 𝕄 := iprop(away Y c q ∗ sendPos c q)
/-- And after it. -/
def cleared (q : ℕ) : sProp 𝕄 := iprop(free (F := F) c q ∗ sendPos c (q + 20))

/-- The wait for a hop's departure frees its source slot. -/
theorem wp_clear {α : Type} (Q : α → sProp 𝕄) (q h : ℕ) (t : Fin 4) (hq : q < 120) (eh : h = q / 4) (et : t = tq q) (k : PUnit → Pg F α) :
    iprop(invs Y R K ∗ levAts L lv ∗ debt c 120 ∗ leftover Y c q)
      ⊢ iprop(((debt c 120 ∗ cleared (F := F) c q) -∗ WP c (k ⟨⟩) Q)
        -∗ WP c (waitSend cM (Memref.isWhole_whole _) cc0_scratch3 h t >>= k) Q) := by
  subst eh et
  unfold leftover cleared away free
  iintro ⟨#HI, #Hlev, HO, ⟨⟨Hc, Hr⟩, Hat⟩⟩ Hk
  iapply (wp_sent Y R K c Q q 120 hq) $$ [HO Hc Hat]
  · isplitr; · iexact HI
    isplitr; · iexact Hlev
    isplitl [Hc]; · iexact Hc
    isplitl [HO] <;> iassumption
  iintro ⟨HO, Hat, -, Hl⟩
  iapply Hk
  isplitl [HO]; · iexact HO
  isplitr [Hat]
  · iexists (Y c q)
    iapply (comm_join c)
    isplitl [Hl] <;> iassumption
  iexact Hat

/-- Between the waits of two rings. -/
def draining (q : ℕ) : sProp 𝕄 :=
  iprop(debt c 120 ∗ bigSep (Finset.Ico q 116) (fun q => iprop(leftover Y c q ∗ leftover Y c (q + 4)))
    ∗ bigSep (Finset.Ico 112 q) (fun q => iprop(cleared (F := F) c q ∗ cleared (F := F) c (q + 4))))

/-- The waits for a ring's last two departures. -/
theorem wp_drain {α : Type} (Q : α → sProp 𝕄) (q : ℕ) (t : Fin 4) (h0 : 112 ≤ q) (hq : q < 116) (et : t = tq q) (k : PUnit → Pg F α) :
    iprop(invs Y R K ∗ levAts L lv ∗ draining Y c q)
      ⊢ iprop((draining Y c (q + 1) -∗ WP c (k ⟨⟩) Q)
        -∗ WP c (drainSend cM (Memref.isWhole_whole _) cc0_scratch3 t >>= k) Q) := by
  unfold drainSend draining
  simp only [bind_assoc]
  iintro ⟨#HI, #Hlev, HO, Hin, Hout⟩ Hk
  ihave H := (peel (fun q => iprop(leftover Y c q ∗ leftover Y c (q + 4))) q (q + 1) 116 hq rfl) $$ Hin
  icases H with ⟨⟨Ha, Hb⟩, Hin⟩
  iapply (wp_clear Y R K c Q q 28 t (by omega) (by omega) et) $$ [HO Ha]
  · isplitr; · iexact HI
    isplitr; · iexact Hlev
    isplitl [HO] <;> iassumption
  iintro ⟨HO, Ha⟩
  iapply (wp_clear Y R K c Q (q + 4) 29 t (by omega) (by omega) (et.trans (Fin.ext (by show q % 4 = (q + 4) % 4; omega)))) $$ [HO Hb]
  · isplitr; · iexact HI
    isplitr; · iexact Hlev
    isplitl [HO] <;> iassumption
  iintro ⟨HO, Hb⟩
  iapply Hk
  isplitl [HO]; · iexact HO
  isplitl [Hin]; · iexact Hin
  iapply (push (fun q => iprop(cleared (F := F) c q ∗ cleared (F := F) c (q + 4))) 112 q (q + 1) h0 rfl)
  isplitl [Ha Hb]
  · isplitl [Ha] <;> iassumption
  iexact Hout

/-- Position by position, in place of ring by ring. -/
theorem eight (Φ : ℕ → sProp 𝕄) : bigSep (Finset.Ico 112 116) (fun q => iprop(Φ q ∗ Φ (q + 4))) ⊣⊢ bigSep (Finset.Ico 112 120) Φ := by
  have e : bigSep (Finset.Ico 112 116) (fun q => iprop(Φ q ∗ Φ (q + 4))) = bigSep (Finset.Ico 112 120) Φ := by
    rw [both, ← shift Φ 112 116 4]
    exact (join Φ 112 116 120 (by omega) (by omega)).symm
  exact ⟨Entails.of_eq e, Entails.of_eq e.symm⟩

/-- Between the last waits for stores. -/
def storing (q : ℕ) : sProp 𝕄 :=
  iprop(debt c 120 ∗ bigSep (Finset.Ico q 124) (storeCred c) ∗ bigSep (Finset.Ico q (q + 8)) (storePos c)
    ∗ bigSep (Finset.Ico 60 q) (fun q => tileAt c q (R c))
    ∗ bigSep (Finset.Ico 116 q) (fun q => iprop(∃ X : Tile F, stageAt c (tq q) (gs (q / 4)) X)))

/-- The wait for one of the last eight stores yields its result tile and its staging slot. -/
theorem wp_lastStore {α : Type} (Q : α → sProp 𝕄) (q h : ℕ) (t : Fin 4) (h0 : 116 ≤ q) (hq : q < 124) (eh : h = q / 4) (et : t = tq q) (k : PUnit → Pg F α) :
    iprop(invs Y R K ∗ levAts L lv ∗ storing R c q)
      ⊢ iprop((storing R c (q + 1) -∗ WP c (k ⟨⟩) Q)
        -∗ WP c (waitStore oM (Memref.isWhole_whole _) gM (Memref.isWhole_whole _) cc0_scratch5 c h t >>= k) Q) := by
  subst eh et
  unfold storing
  iintro ⟨#HI, #Hlev, HO, Hc, Hp, Ht, Hs⟩ Hk
  ihave H := (peel (storeCred c) q (q + 1) 124 hq rfl) $$ Hc
  icases H with ⟨Hc1, Hc⟩
  ihave H := (peel (storePos c) q (q + 1) (q + 8) (by omega) rfl) $$ Hp
  icases H with ⟨Hp1, Hp⟩
  iapply (wp_stored Y R K c Q q 120 (by omega) hq) $$ [HO Hc1 Hp1]
  · isplitr; · iexact HI
    isplitr; · iexact Hlev
    isplitl [Hc1]; · iexact Hc1
    isplitl [HO] <;> iassumption
  iintro ⟨HO, Hp1, -, Ht1, Hs1⟩
  iapply Hk
  isplitl [HO]; · iexact HO
  isplitl [Hc]; · iexact Hc
  isplitl [Hp Hp1]
  · iapply (push (storePos c) (q + 1) (q + 8) (q + 1 + 8) (by omega) (by omega))
    isplitl [Hp1] <;> iassumption
  isplitl [Ht Ht1]
  · iapply (push (fun q => tileAt c q (R c)) 60 q (q + 1) (by omega) rfl)
    isplitl [Ht1] <;> iassumption
  iapply (push (fun q => iprop(∃ X : Tile F, stageAt c (tq q) (gs (q / 4)) X)) 116 q (q + 1) h0 rfl)
  isplitl [Hs1]
  · iexists (Y c q); iexact Hs1
  iexact Hs

/-- What a device has at the end, besides its inputs. -/
def ends : sProp 𝕄 :=
  iprop(debt c 120 ∗ bigSep (Finset.Ico 120 140) (recvPos (F := F) c) ∗ bigSep (Finset.Ico 120 140) (sendPos (F := F) c)
    ∗ bigSep (Finset.Ico 124 132) (storePos (F := F) c) ∗ bigSep (Finset.Ico 104 124) (free (F := F) c)
    ∗ bigSep (Finset.Ico 116 124) (fun q => iprop(∃ X : Tile F, stageAt c (tq q) (gs (q / 4)) X))
    ∗ bigSep (Finset.Ico 60 124) (fun q => tileAt c q (R c)))

/-- A slot holding a landed tile is a slot the device may write to. -/
theorem landed_free (q : ℕ) : commAt c (tq q) (cs (q / 4)) fullShare (Y c q) ⊢ (free c q : sProp 𝕄) := by
  unfold free
  iintro H
  iexists (Y c q); iexact H

/-- What a device holds after the last step, as the waits at the end use it. -/
theorem st_last : st Y R c 124 ⊢ (iprop(draining Y c 112 ∗ bigSep (Finset.Ico 120 140) (recvPos (F := F) c)
      ∗ bigSep (Finset.Ico 120 132) (sendPos (F := F) c) ∗ bigSep (Finset.Ico 104 112) (free (F := F) c) ∗ bigSep (Finset.Ico 120 124) (free (F := F) c)
      ∗ bigSep (Finset.Ico 116 124) (storeCred (F := F) c) ∗ bigSep (Finset.Ico 116 124) (storePos (F := F) c) ∗ bigSep (Finset.Ico 60 116) (fun q => tileAt c q (R c))) : sProp 𝕄) := by
  unfold st arrivals hops departures kept landed stores draining
  iintro ⟨⟨-, Hrp⟩, HO, ⟨-, ⟨-, Hsp, Haw⟩, -, -, -, Hkept⟩, ⟨-, -, Hsc, Hstp, Ht⟩, Hl⟩
  ihave Hsp : (bigSep (Finset.Ico 112 132) (sendPos c) : sProp 𝕄) $$ [Hsp]
  · iexact Hsp
  ihave H := (Entails.of_eq (join (sendPos c) 112 120 132 (by omega) (by omega))) $$ Hsp
  icases H with ⟨Hsp1, Hsp2⟩
  isplitl [HO Haw Hsp1]
  · isplitl [HO]; · iexact HO
    isplitl [Haw Hsp1]
    · iapply (eight (leftover Y c)).2
      unfold leftover
      rw [both]
      isplitl [Haw]
      · iexact Haw
      iexact Hsp1
    · rw [Finset.Ico_self, bigSep_empty]; iempintro
  isplitl [Hrp]; · iexact Hrp
  isplitl [Hsp2]; · iexact Hsp2
  isplitl [Hkept]; · iexact Hkept
  isplitl [Hl]
  · iapply (show bigSep (Finset.Ico 120 124) (fun q => commAt c (tq q) (cs (q / 4)) fullShare (Y c q)) ⊢ (bigSep (Finset.Ico 120 124) (free c) : sProp 𝕄) from bigSep_mono fun q _ => landed_free Y c q)
    iexact Hl
  isplitl [Hsc]; · iexact Hsc
  isplitl [Hstp]; · iexact Hstp
  iexact Ht

/-- The end of the body goes from what the device holds after the last step to what it has at the end. -/
theorem wp_epilogue {α : Type} (Q : α → sProp 𝕄) (k : PUnit → Pg F α) :
    iprop(invs Y R K ∗ levAts L lv ∗ st Y R c 124)
      ⊢ iprop((ends R c -∗ WP c (k ⟨⟩) Q)
        -∗ WP c (epilogue oM (Memref.isWhole_whole _) cM (Memref.isWhole_whole _) gM (Memref.isWhole_whole _) cc0_scratch3 cc0_scratch5 c >>= k) Q) := by
  unfold epilogue
  simp only [bind_assoc]
  iintro ⟨#HI, #Hlev, Hst⟩ Hk
  ihave H := (st_last Y R c) $$ Hst
  icases H with ⟨Hd, Hrp, Hsp, Hf1, Hf2, Hsc, Hstp, Ht⟩
  iapply (wp_drain Y R K c Q 112 0 (by omega) (by omega) rfl) $$ [Hd]
  · isplitr; · iexact HI
    isplitr; · iexact Hlev
    iexact Hd
  iintro Hd
  iapply (wp_drain Y R K c Q 113 1 (by omega) (by omega) rfl) $$ [Hd]
  · isplitr; · iexact HI
    isplitr; · iexact Hlev
    iexact Hd
  iintro Hd
  iapply (wp_drain Y R K c Q 114 2 (by omega) (by omega) rfl) $$ [Hd]
  · isplitr; · iexact HI
    isplitr; · iexact Hlev
    iexact Hd
  iintro Hd
  iapply (wp_drain Y R K c Q 115 3 (by omega) (by omega) rfl) $$ [Hd]
  · isplitr; · iexact HI
    isplitr; · iexact Hlev
    iexact Hd
  iintro Hd
  ihave Hd := (Entails.of_eq (show draining Y c (115 + 1) = iprop(debt c 120 ∗ bigSep (Finset.Ico 116 116) (fun q => iprop(leftover Y c q ∗ leftover Y c (q + 4)))
    ∗ bigSep (Finset.Ico 112 116) (fun q => iprop(cleared (F := F) c q ∗ cleared (F := F) c (q + 4)))) from rfl)) $$ Hd
  icases Hd with ⟨HO, -, Hcl⟩
  ihave Hcl := (eight (cleared (F := F) c)).1 $$ Hcl
  unfold cleared
  ihave Hcl := (Entails.of_eq (both (Finset.Ico 112 120) (free (F := F) c) (fun q => sendPos c (q + 20)))) $$ Hcl
  icases Hcl with ⟨Hf, Hsp'⟩
  ihave Hs : (storing R c 116 : sProp 𝕄) $$ [HO Hsc Hstp Ht]
  · unfold storing
    isplitl [HO]; · iexact HO
    isplitl [Hsc]; · iexact Hsc
    isplitl [Hstp]; · iexact Hstp
    isplitl [Ht]; · iexact Ht
    rw [Finset.Ico_self, bigSep_empty]; iempintro
  iapply (wp_lastStore Y R K c Q 116 29 0 (by omega) (by omega) (by omega) rfl) $$ [Hs]
  · isplitr; · iexact HI
    isplitr; · iexact Hlev
    iexact Hs
  iintro Hs
  iapply (wp_lastStore Y R K c Q 117 29 1 (by omega) (by omega) (by omega) rfl) $$ [Hs]
  · isplitr; · iexact HI
    isplitr; · iexact Hlev
    iexact Hs
  iintro Hs
  iapply (wp_lastStore Y R K c Q 118 29 2 (by omega) (by omega) (by omega) rfl) $$ [Hs]
  · isplitr; · iexact HI
    isplitr; · iexact Hlev
    iexact Hs
  iintro Hs
  iapply (wp_lastStore Y R K c Q 119 29 3 (by omega) (by omega) (by omega) rfl) $$ [Hs]
  · isplitr; · iexact HI
    isplitr; · iexact Hlev
    iexact Hs
  iintro Hs
  iapply (wp_lastStore Y R K c Q 120 30 0 (by omega) (by omega) (by omega) rfl) $$ [Hs]
  · isplitr; · iexact HI
    isplitr; · iexact Hlev
    iexact Hs
  iintro Hs
  iapply (wp_lastStore Y R K c Q 121 30 1 (by omega) (by omega) (by omega) rfl) $$ [Hs]
  · isplitr; · iexact HI
    isplitr; · iexact Hlev
    iexact Hs
  iintro Hs
  iapply (wp_lastStore Y R K c Q 122 30 2 (by omega) (by omega) (by omega) rfl) $$ [Hs]
  · isplitr; · iexact HI
    isplitr; · iexact Hlev
    iexact Hs
  iintro Hs
  iapply (wp_lastStore Y R K c Q 123 30 3 (by omega) (by omega) (by omega) rfl) $$ [Hs]
  · isplitr; · iexact HI
    isplitr; · iexact Hlev
    iexact Hs
  unfold storing
  iintro ⟨HO, -, Hstp, Ht, Hsg⟩
  iapply Hk
  unfold ends
  isplitl [HO]; · iexact HO
  isplitl [Hrp]; · iexact Hrp
  isplitl [Hsp Hsp']
  · iapply (Entails.of_eq (join (sendPos c) 120 132 140 (by omega) (by omega)).symm)
    isplitl [Hsp]; · iexact Hsp
    iapply (Entails.of_eq (shift (sendPos c) 112 120 20).symm); iexact Hsp'
  isplitl [Hstp]; · iexact Hstp
  isplitl [Hf Hf1 Hf2]
  · iapply (Entails.of_eq (join (free c) 104 120 124 (by omega) (by omega)).symm)
    isplitr [Hf2]
    · iapply (Entails.of_eq (join (free c) 104 112 120 (by omega) (by omega)).symm)
      isplitl [Hf1] <;> iassumption
    iexact Hf2
  isplitl [Hsg] <;> iassumption

/-! ## The whole body -/

/-- The whole body, from what a device has at the start to what it has at the end, its inputs as they were. -/
theorem wp_body (hF : Fits Y R fx fw) (Q : PUnit → sProp 𝕄) :
    iprop(invs Y R K ∗ levAts L lv ∗ xPts fx c ∗ wPts fw c ∗ begins R c)
      ⊢ iprop((iprop(xPts fx c ∗ wPts fw c ∗ kPts c (k0_pay1 (fw c)) ∗ atPos ER (barCell c) 1 ∅ 0 ∗ ends R c) -∗ Q ⟨⟩)
        -∗ WP c (ringBody xM wM oM (Memref.isWhole_whole _) kM (Memref.isWhole_whole _) cM (Memref.isWhole_whole _) gM (Memref.isWhole_whole _) cc0_scratch3 cc0_scratch4 cc0_scratch5) Q) := by
  unfold ringBody
  simp only [Prog.lift, Prog.bind_op, Prog.bind_ret]
  iintro ⟨#HI, #Hlev, H⟩ Hk
  unfold WP
  rw [wp_deviceId]
  iapply (wp_prologue Y R K fx fw c hF Q) $$ [H]
  · isplitr; · iexact HI
    isplitr; · iexact Hlev
    iexact H
  iintro ⟨Hx, Hw, Hkf, Hbar, Hst⟩
  iapply (wp_iters Y R K fx fw c hF Q _ 30 1 (by omega) (by omega)) $$ [Hx Hkf Hst]
  · isplitr; · iexact HI
    isplitr; · iexact Hlev
    isplitl [Hx]; · iexact Hx
    isplitl [Hkf] <;> iassumption
  iintro ⟨Hx, Hkf, Hst⟩
  rw [← bind_pure (epilogue oM (Memref.isWhole_whole _) cM (Memref.isWhole_whole _) gM (Memref.isWhole_whole _) cc0_scratch3 cc0_scratch5 c)]
  iapply (wp_epilogue Y R K c Q) $$ [Hst]
  · isplitr; · iexact HI
    isplitr; · iexact Hlev
    iexact Hst
  iintro He
  rw [Prog.pure_eq_ret]
  unfold WP
  rw [wp_ret]
  imodintro
  iapply Hk
  isplitl [Hx]; · iexact Hx
  isplitl [Hw]; · iexact Hw
  isplitl [Hkf]; · iexact Hkf
  isplitl [Hbar] <;> iassumption

end Ends

end Cert.RingProof

end
-- ==== Proof.Whole.lean ====
/-
Whole buffers and their slots: the receive and the staging buffer as their slots, the result as its tiles; where the tiles lie.
-/
module

public import proofs.«01_k».proof.Proof.Ends

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-! ## Buffers in parts -/

section Parts

variable {ℓ : Loc nD τ sig} (S : Finset ℕ) (I : ℕ → Finset (Idx ℓ))
variable (hcov : ∀ i, ∃ q ∈ S, i ∈ I q) (hdis : ∀ q ∈ S, ∀ q' ∈ S, ∀ i, i ∈ I q → i ∈ I q' → q = q')

include hcov in
/-- The parts make up the whole. -/
theorem parts_all : S.biUnion I = Finset.univ := Finset.eq_univ_iff_forall.mpr fun i => Finset.mem_biUnion.mpr (hcov i)
include hdis in
/-- Different parts have no element in common. -/
theorem parts_apart : ∀ q ∈ S, ∀ q' ∈ S, q ≠ q' → Disjoint (I q) (I q') := fun q hq q' hq' hne =>
  Finset.disjoint_left.mpr fun i h h' => hne (hdis q hq q' hq' i h h')

include hcov hdis in
/-- A buffer is its parts. -/
theorem parts_split (f : Buf (Elt F) ℓ) : (ℓ ↦{fullShare} f : sProp 𝕄) = bigSep S fun q => ℓ ↦[I q]{fullShare} f := by
  rw [← pointsTo_biUnion S I (parts_apart S I hdis), parts_all S I hcov]

include hcov hdis in
/-- Parts with contents of their own are the buffer with some contents. -/
theorem parts_join (fs : ℕ → Buf (Elt F) ℓ) : bigSep S (fun q => ℓ ↦[I q]{fullShare} fs q) ⊢ (iprop(∃ f : Buf (Elt F) ℓ, ℓ ↦{fullShare} f) : sProp 𝕄) := by
  have e := pointsTo_biUnion_join (nD := nD) (τ := τ) (sig := sig) (Ix := ℕ) (Val := Elt F) (Name := ℕ) (U := UU) (Lvl := ℕ) (q := fullShare) S I fs (fs 0) (parts_apart S I hdis)
  rw [parts_all S I hcov] at e
  iintro H
  ihave H := e $$ H
  icases H with ⟨%g, -, H⟩
  iexists g
  iexact H

end Parts

variable (c : Dev nD)

/-! ## The receive buffer -/

section Comm

variable (S : Finset ℕ) (s : ℕ → Fin 5) (hcov : ∀ (t : Fin 4) (u : Fin 5), ∃ q ∈ S, tq q = t ∧ s q = u)
  (hinj : ∀ q ∈ S, ∀ q' ∈ S, tq q = tq q' → s q = s q' → q = q')

include hcov in
/-- Every element of the receive buffer lies in a slot. -/
theorem comm_cov (i : S4x5x128x1024.Idx) : ∃ q ∈ S, i ∈ (commM cM (tq q) (s q)).view.set := by
  obtain ⟨q, hq, h0, h1⟩ := hcov (i 0) (i 1)
  exact ⟨q, hq, (comm_mem _ _ i).mpr ⟨h0.symm, h1.symm⟩⟩
include hinj in
/-- No element of the receive buffer lies in two slots. -/
theorem comm_dis : ∀ q ∈ S, ∀ q' ∈ S, ∀ i : S4x5x128x1024.Idx, i ∈ (commM cM (tq q) (s q)).view.set → i ∈ (commM cM (tq q') (s q')).view.set → q = q' := by
  intro q hq q' hq' i h h'
  obtain ⟨h0, h1⟩ := (comm_mem _ _ i).mp h
  obtain ⟨h0', h1'⟩ := (comm_mem _ _ i).mp h'
  exact hinj q hq q' hq' (h0.symm.trans h0') (h1.symm.trans h1')

/-- A slot of the receive buffer, whatever its contents, holds some tile. -/
theorem comm_some (t : Fin 4) (u : Fin 5) (f : Buf (Elt F) ((c : Thread nD τ).loc cc0_scratch1)) :
    ((c : Thread nD τ).loc cc0_scratch1 ↦[(commM cM t u).view.set]{fullShare} f) ⊢ (iprop(∃ X : Tile F, commAt c t u fullShare X) : sProp 𝕄) := by
  obtain ⟨X, hX⟩ := comm_any c t u f
  iintro H
  iexists X
  unfold commAt
  iapply (Entails.of_eq (show ((c : Thread nD τ).loc cc0_scratch1 ↦[(commM cM t u).view.set]{fullShare} f : sProp 𝕄) = ((commM cM t u).view.loc (c : Thread nD τ) ↦[(commM cM t u).view.set]{fullShare} (commBuf c X)) from pointsTo_congr hX))
  iexact H

include hcov hinj in
/-- The receive buffer gives all its slots. -/
theorem comm_split : (iprop(∃ f, (c : Thread nD τ).loc cc0_scratch1 ↦{fullShare} f) : sProp 𝕄)
    ⊢ bigSep S fun q => iprop(∃ X : Tile F, commAt c (tq q) (s q) fullShare X) := by
  iintro ⟨%f, H⟩
  iapply (show bigSep S (fun q => (c : Thread nD τ).loc cc0_scratch1 ↦[(commM cM (tq q) (s q)).view.set]{fullShare} f) ⊢ (bigSep S (fun q => iprop(∃ X : Tile F, commAt c (tq q) (s q) fullShare X)) : sProp 𝕄)
    from bigSep_mono fun q _ => comm_some c (tq q) (s q) f)
  iapply (Entails.of_eq (parts_split (ℓ := (c : Thread nD τ).loc cc0_scratch1) S (fun q => (commM cM (tq q) (s q)).view.set) (comm_cov S s hcov) (comm_dis S s hinj) f))
  iexact H

include hcov hinj in
/-- All slots give the receive buffer back. -/
theorem comm_whole : bigSep S (fun q => iprop(∃ X : Tile F, commAt c (tq q) (s q) fullShare X))
    ⊢ (iprop(∃ f, (c : Thread nD τ).loc cc0_scratch1 ↦{fullShare} f) : sProp 𝕄) := by
  haveI : Nonempty (Tile F) := ⟨fun _ => Classical.choice (Elt.nonempty F .bf16)⟩
  refine (bigSep_exists_pi S fun q (X : Tile F) => commAt c (tq q) (s q) fullShare X).trans ?_
  iintro ⟨%X, H⟩
  unfold commAt
  iapply (parts_join (ℓ := (c : Thread nD τ).loc cc0_scratch1) S (fun q => (commM cM (tq q) (s q)).view.set) (comm_cov S s hcov) (comm_dis S s hinj) fun q => commBuf c (X q))
  iexact H

end Comm

/-! ## The staging buffer -/

section Stage

variable (S : Finset ℕ) (s : ℕ → Fin 2) (hcov : ∀ (t : Fin 4) (u : Fin 2), ∃ q ∈ S, tq q = t ∧ s q = u)
  (hinj : ∀ q ∈ S, ∀ q' ∈ S, tq q = tq q' → s q = s q' → q = q')

include hcov in
/-- Every element of the staging buffer lies in a slot. -/
theorem stage_cov (i : S4x2x128x1024.Idx) : ∃ q ∈ S, i ∈ (stageM gM (tq q) (s q)).view.set := by
  obtain ⟨q, hq, h0, h1⟩ := hcov (i 0) (i 1)
  exact ⟨q, hq, (stage_mem _ _ i).mpr ⟨h0.symm, h1.symm⟩⟩
include hinj in
/-- No element of the staging buffer lies in two slots. -/
theorem stage_dis : ∀ q ∈ S, ∀ q' ∈ S, ∀ i : S4x2x128x1024.Idx, i ∈ (stageM gM (tq q) (s q)).view.set → i ∈ (stageM gM (tq q') (s q')).view.set → q = q' := by
  intro q hq q' hq' i h h'
  obtain ⟨h0, h1⟩ := (stage_mem _ _ i).mp h
  obtain ⟨h0', h1'⟩ := (stage_mem _ _ i).mp h'
  exact hinj q hq q' hq' (h0.symm.trans h0') (h1.symm.trans h1')

/-- A slot of the staging buffer, whatever its contents, holds some tile. -/
theorem stage_some (t : Fin 4) (u : Fin 2) (f : Buf (Elt F) ((c : Thread nD τ).loc cc0_scratch2)) :
    ((c : Thread nD τ).loc cc0_scratch2 ↦[(stageM gM t u).view.set]{fullShare} f) ⊢ (iprop(∃ X : Tile F, stageAt c t u X) : sProp 𝕄) := by
  obtain ⟨X, hX⟩ := stage_any c t u f
  iintro H
  iexists X
  unfold stageAt
  iapply (Entails.of_eq (show ((c : Thread nD τ).loc cc0_scratch2 ↦[(stageM gM t u).view.set]{fullShare} f : sProp 𝕄) = ((stageM gM t u).view.loc (c : Thread nD τ) ↦[(stageM gM t u).view.set]{fullShare} (stageBuf c X)) from pointsTo_congr hX))
  iexact H

include hcov hinj in
/-- The staging buffer gives all its slots. -/
theorem stage_split : (iprop(∃ f, (c : Thread nD τ).loc cc0_scratch2 ↦{fullShare} f) : sProp 𝕄)
    ⊢ bigSep S fun q => iprop(∃ X : Tile F, stageAt c (tq q) (s q) X) := by
  iintro ⟨%f, H⟩
  iapply (show bigSep S (fun q => (c : Thread nD τ).loc cc0_scratch2 ↦[(stageM gM (tq q) (s q)).view.set]{fullShare} f) ⊢ (bigSep S (fun q => iprop(∃ X : Tile F, stageAt c (tq q) (s q) X)) : sProp 𝕄)
    from bigSep_mono fun q _ => stage_some c (tq q) (s q) f)
  iapply (Entails.of_eq (parts_split (ℓ := (c : Thread nD τ).loc cc0_scratch2) S (fun q => (stageM gM (tq q) (s q)).view.set) (stage_cov S s hcov) (stage_dis S s hinj) f))
  iexact H

include hcov hinj in
/-- All slots give the staging buffer back. -/
theorem stage_whole : bigSep S (fun q => iprop(∃ X : Tile F, stageAt c (tq q) (s q) X))
    ⊢ (iprop(∃ f, (c : Thread nD τ).loc cc0_scratch2 ↦{fullShare} f) : sProp 𝕄) := by
  haveI : Nonempty (Tile F) := ⟨fun _ => Classical.choice (Elt.nonempty F .bf16)⟩
  refine (bigSep_exists_pi S fun q (X : Tile F) => stageAt c (tq q) (s q) X).trans ?_
  iintro ⟨%X, H⟩
  unfold stageAt
  iapply (parts_join (ℓ := (c : Thread nD τ).loc cc0_scratch2) S (fun q => (stageM gM (tq q) (s q)).view.set) (stage_cov S s hcov) (stage_dis S s hinj) fun q => stageBuf c (X q))
  iexact H

end Stage

/-- The receive buffer gives the slots for the first twenty hops. -/
theorem comm_begin : (iprop(∃ f, (c : Thread nD τ).loc cc0_scratch1 ↦{fullShare} f) : sProp 𝕄) ⊢ bigSep (Finset.Ico 0 20) (spot (F := F) c) :=
  comm_split c (Finset.Ico 0 20) (fun q => cs (q / 4 + 1)) (by decide +kernel) (by decide +kernel)
/-- The slots of the receive buffer at the end give it back. -/
theorem comm_end : bigSep (Finset.Ico 104 124) (free (F := F) c) ⊢ (iprop(∃ f, (c : Thread nD τ).loc cc0_scratch1 ↦{fullShare} f) : sProp 𝕄) :=
  comm_whole c (Finset.Ico 104 124) (fun q => cs (q / 4)) (by decide +kernel) (by decide +kernel)
/-- The staging buffer gives the slots for the first eight stores. -/
theorem stage_begin : (iprop(∃ f, (c : Thread nD τ).loc cc0_scratch2 ↦{fullShare} f) : sProp 𝕄)
    ⊢ bigSep (Finset.Ico 60 68) (fun q => iprop(∃ X : Tile F, stageAt c (tq q) (gs (q / 4)) X)) :=
  stage_split c (Finset.Ico 60 68) (fun q => gs (q / 4)) (by decide +kernel) (by decide +kernel)
/-- The staging slots at the end give it back. -/
theorem stage_end : bigSep (Finset.Ico 116 124) (fun q => iprop(∃ X : Tile F, stageAt c (tq q) (gs (q / 4)) X))
    ⊢ (iprop(∃ f, (c : Thread nD τ).loc cc0_scratch2 ↦{fullShare} f) : sProp 𝕄) :=
  stage_whole c (Finset.Ico 116 124) (fun q => gs (q / 4)) (by decide +kernel) (by decide +kernel)

/-! ## The result -/

/-- A device's place in the rings. -/
def rk (c : Dev nD) : ℕ := (![0, 1, 8, 9, 15, 2, 7, 10, 14, 3, 6, 11, 13, 4, 5, 12] : Fin 16 → ℕ) ⟨c.val, c.isLt⟩

/-- The block of 256 rows that ring `t` of device `c` handles at iteration `h`. -/
def chunk (c : Dev nD) (t : Fin 4) (h : ℕ) : ℕ := if t.val % 2 = 0 then (rk c + 32 - h) % 16 else (rk c + h) % 16

/-- There are sixteen places. -/
theorem rk_lt : ∀ c : Dev nD, rk c < 16 := by decide +kernel

/-- There are sixteen blocks of rows. -/
theorem chunk_lt (t : Fin 4) (h : ℕ) : chunk c t h < 16 := by unfold chunk; split <;> exact Nat.mod_lt _ (by decide)

/-- The corner of a result tile, from the block of rows, the row half and the column half. -/
theorem out_off : ∀ (c : Dev nD) (r : Fin 16) (t : Fin 4),
    outOff c (15 + r.val) t = ![256 * chunk c t (15 + r.val) + 128 * (t.val / 2), 1024 * (t.val % 2)] := by decide +kernel

/-- The same at a position. -/
theorem out_corner (q : ℕ) (h0 : 60 ≤ q) (hq : q < 124) :
    outOff c (q / 4) (tq q) = ![256 * chunk c (tq q) (q / 4) + 128 * (q % 4 / 2), 1024 * (q % 4 % 2)] := by
  have e := out_off c ⟨q / 4 - 15, by omega⟩ (tq q)
  rw [show 15 + (⟨q / 4 - 15, by omega⟩ : Fin 16).val = q / 4 by show 15 + (q / 4 - 15) = q / 4; omega] at e
  exact e

/-- Where an element of the tile of position `q` lies. -/
theorem out_emb (q : ℕ) (h0 : 60 ≤ q) (hq : q < 124) (j : S128x1024.Idx) :
    (((outM oM c (q / 4) (tq q)).view.emb j : S4096x2048.Idx) 0).val = 256 * chunk c (tq q) (q / 4) + 128 * (q % 4 / 2) + (j 0).val
    ∧ (((outM oM c (q / 4) (tq q)).view.emb j : S4096x2048.Idx) 1).val = 1024 * (q % 4 % 2) + (j 1).val := by
  have e := out_corner c q h0 hq
  constructor
  · show outOff c (q / 4) (tq q) 0 + 1 * (j 0).val = _
    rw [e]; show 256 * chunk c (tq q) (q / 4) + 128 * (q % 4 / 2) + 1 * (j 0).val = _; omega
  · show outOff c (q / 4) (tq q) 1 + 1 * (j 1).val = _
    rw [e]; show 1024 * (q % 4 % 2) + 1 * (j 1).val = _; omega

/-- The position at which device `c` stores an element of the result. -/
def posOf (i : S4096x2048.Idx) : ℕ :=
  4 * (15 + (if (i 1).val / 1024 = 0 then rk c + 17 - (i 0).val / 256 else (i 0).val / 256 + 17 - rk c) % 16)
    + (2 * ((i 0).val / 128 % 2) + (i 1).val / 1024)

/-- Every element of the result is stored at one of the positions 60 to 123. -/
theorem posOf_range (i : S4096x2048.Idx) : 60 ≤ posOf c i ∧ posOf c i < 124 := by
  have h1 : (i 1).val < 2048 := (i 1).isLt
  unfold posOf
  generalize (if (i 1).val / 1024 = 0 then rk c + 17 - (i 0).val / 256 else (i 0).val / 256 + 17 - rk c) = x
  omega

/-- An element of the tile of position `q` is stored at position `q`. -/
theorem posOf_tile (q : ℕ) (h0 : 60 ≤ q) (hq : q < 124) (j : S128x1024.Idx) : posOf c ((outM oM c (q / 4) (tq q)).view.emb j) = q := by
  obtain ⟨e0, e1⟩ := out_emb c q h0 hq j
  have j0 : (j 0).val < 128 := (j 0).isLt
  have j1 : (j 1).val < 1024 := (j 1).isLt
  have hr := rk_lt c
  unfold posOf
  rw [e0, e1]
  unfold chunk
  by_cases ho : q % 4 % 2 = 0
  · rw [if_pos (show (tq q).val % 2 = 0 from ho), if_pos (by omega)]
    omega
  · rw [if_neg (show ¬ (tq q).val % 2 = 0 from ho), if_neg (by omega)]
    omega

/-- The elements of the result tile of iteration `h` and ring `t`. -/
def outAt (h : ℕ) (t : Fin 4) : Finset S4096x2048.Idx := (outM oM c h t).view.set
/-- The elements of the result tile of position `q`. -/
def outSet (q : ℕ) : Finset S4096x2048.Idx := outAt c (q / 4) (tq q)

/-- A result tile held is those elements of the result held. -/
theorem tile_eq (h : ℕ) (t : Fin 4) (f : Buf (Elt F) ((oM : Memref sig .tc .hbm S4096x2048 .bf16).view.loc (c : Thread nD τ))) :
    ((outM oM c h t).view.loc (c : Thread nD τ) ↦[(outM oM c h t).view.set]{fullShare} f : sProp 𝕄)
      = ((c : Thread nD τ).loc main_v1 ↦[outAt c h t]{fullShare} f) := rfl

/-- The elements of the tile of position `q` are those stored at `q`. -/
theorem out_mem (q : ℕ) (h0 : 60 ≤ q) (hq : q < 124) (i : S4096x2048.Idx) : Iff (i ∈ outSet c q) (posOf c i = q) := by
  constructor
  · intro h
    obtain ⟨j, -, rfl⟩ := Finset.mem_map.mp h
    exact posOf_tile c q h0 hq j
  · intro h
    refine Finset.mem_map.mpr ⟨(ix2 ⟨(i 0).val % 128, Nat.mod_lt _ (by decide)⟩ ⟨(i 1).val % 1024, Nat.mod_lt _ (by decide)⟩ : S128x1024.Idx), Finset.mem_univ _, ?_⟩
    obtain ⟨e0, e1⟩ := out_emb c q h0 hq (ix2 ⟨(i 0).val % 128, Nat.mod_lt _ (by decide)⟩ ⟨(i 1).val % 1024, Nat.mod_lt _ (by decide)⟩ : S128x1024.Idx)
    have i0 : (i 0).val < 4096 := (i 0).isLt
    have i1 : (i 1).val < 2048 := (i 1).isLt
    have hr := rk_lt c
    have hc : chunk c (tq q) (q / 4) = (i 0).val / 256 ∧ q % 4 / 2 = (i 0).val / 128 % 2 ∧ q % 4 % 2 = (i 1).val / 1024 := by
      unfold posOf at h
      unfold chunk
      by_cases ho : (i 1).val / 1024 = 0
      · rw [if_pos ho] at h
        rw [if_pos (show (q % 4) % 2 = 0 by omega)]
        omega
      · rw [if_neg ho] at h
        rw [if_neg (show ¬ (q % 4) % 2 = 0 by omega)]
        omega
    obtain ⟨hc0, hc1, hc2⟩ := hc
    rw [hc0, hc1] at e0
    rw [hc2] at e1
    have e0' : (((outM oM c (q / 4) (tq q)).view.emb (ix2 ⟨(i 0).val % 128, Nat.mod_lt _ (by decide)⟩ ⟨(i 1).val % 1024, Nat.mod_lt _ (by decide)⟩ : S128x1024.Idx) : S4096x2048.Idx) 0).val = (i 0).val :=
      e0.trans (by show 256 * ((i 0).val / 256) + 128 * ((i 0).val / 128 % 2) + (i 0).val % 128 = (i 0).val; omega)
    have e1' : (((outM oM c (q / 4) (tq q)).view.emb (ix2 ⟨(i 0).val % 128, Nat.mod_lt _ (by decide)⟩ ⟨(i 1).val % 1024, Nat.mod_lt _ (by decide)⟩ : S128x1024.Idx) : S4096x2048.Idx) 1).val = (i 1).val :=
      e1.trans (by show 1024 * ((i 1).val / 1024) + (i 1).val % 1024 = (i 1).val; omega)
    funext a
    fin_cases a
    · exact Fin.ext e0'
    · exact Fin.ext e1'

/-- The result is its 64 tiles. -/
theorem out_split (f : Buf (Elt F) ((oM : Memref sig .tc .hbm S4096x2048 .bf16).view.loc (c : Thread nD τ))) :
    ((c : Thread nD τ).loc main_v1 ↦{fullShare} f : sProp 𝕄) = bigSep (Finset.Ico 60 124) fun q => tileAt c q f := by
  have e : (bigSep (Finset.Ico 60 124) fun q => tileAt c q f) = bigSep (Finset.Ico 60 124) fun q => ((c : Thread nD τ).loc main_v1 ↦[outSet c q]{fullShare} f : sProp 𝕄) :=
    congrArg (bigSep _) (funext fun q => tile_eq c (q / 4) (tq q) f)
  rw [e]
  exact parts_split (ℓ := (c : Thread nD τ).loc main_v1) (Finset.Ico 60 124) (fun q => outSet c q)
    (fun i : S4096x2048.Idx => ⟨posOf c i, Finset.mem_Ico.mpr (posOf_range c i), (out_mem c _ (posOf_range c i).1 (posOf_range c i).2 i).mpr rfl⟩)
    (fun q hq q' hq' i h h' => ((out_mem c q (Finset.mem_Ico.mp hq).1 (Finset.mem_Ico.mp hq).2 i).mp h).symm.trans
      ((out_mem c q' (Finset.mem_Ico.mp hq').1 (Finset.mem_Ico.mp hq').2 i).mp h')) f

end Cert.RingProof

end
-- ==== Proof.Cells.lean ====
/-
The cells and the duty tokens of the launch, listed; dealing them to the devices; the credit a device starts with.
-/
module

public import proofs.«01_k».proof.Proof.Whole

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-! ## Conjunctions over ranges and sums -/

/-- A conjunction over `n` numbers from `a` on is one over the interval. -/
theorem over_fin (a n : ℕ) (Φ : ℕ → sProp 𝕄) : bigSep Finset.univ (fun i : Fin n => Φ (a + i.val)) = bigSep (Finset.Ico a (a + n)) Φ := by
  have hinj : Function.Injective (fun i : Fin n => a + i.val) := fun i j h => Fin.ext (Nat.add_left_cancel h)
  have e : Finset.Ico a (a + n) = Finset.univ.map ⟨fun i : Fin n => a + i.val, hinj⟩ := by
    ext x
    rw [Finset.mem_Ico, Finset.mem_map]
    constructor
    · rintro ⟨h1, h2⟩
      exact ⟨⟨x - a, by omega⟩, Finset.mem_univ _, (by show a + (x - a) = x; omega)⟩
    · rintro ⟨i, -, rfl⟩
      have := i.isLt
      exact ⟨by show a ≤ a + i.val; omega, by show a + i.val < a + n; omega⟩
  rw [e, bigSep_map]
  rfl

/-- A conjunction over a sum of two types is two conjunctions. -/
theorem over_sum {α β : Type} [Fintype α] [Fintype β] (Φ : α ⊕ β → sProp 𝕄) :
    bigSep Finset.univ Φ = iprop(bigSep Finset.univ (fun a => Φ (.inl a)) ∗ bigSep Finset.univ (fun b => Φ (.inr b))) := bigSep_univ_sum Φ

/-- Separating conjunction is associative. -/
theorem sep_again (A B C : sProp 𝕄) : iprop(A ∗ B ∗ C) = iprop((A ∗ B) ∗ C) := by
  have h1 : iprop(A ∗ B ∗ C) ⊢ (iprop((A ∗ B) ∗ C) : sProp 𝕄) := by
    iintro ⟨H1, H2, H3⟩
    isplitl [H1 H2]
    · isplitl [H1] <;> iassumption
    iexact H3
  have h2 : iprop((A ∗ B) ∗ C) ⊢ (iprop(A ∗ B ∗ C) : sProp 𝕄) := by
    iintro ⟨⟨H1, H2⟩, H3⟩
    isplitl [H1]; · iexact H1
    isplitl [H2] <;> iassumption
  exact Entails.antisymm h1 h2

/-- A conjunction over one element is its only part. -/
theorem over_unit (Φ : Unit → sProp 𝕄) : bigSep Finset.univ Φ = Φ () := bigSep_singleton

/-- A conjunction over two truth values is its two parts. -/
theorem over_bool (Φ : Bool → sProp 𝕄) : bigSep Finset.univ Φ = iprop(Φ false ∗ Φ true) :=
  bigSep_univ_eq_bigSepL [false, true] (by decide) (by decide) Φ

/-- Devices and positions may be exchanged in a conjunction over both. -/
theorem swap (S : Finset ℕ) (Φ : Dev nD → ℕ → sProp 𝕄) :
    bigSep Finset.univ (fun c : Dev nD => bigSep S (Φ c)) = bigSep S fun q => bigSep Finset.univ fun c : Dev nD => Φ c q := by
  induction S using Finset.induction_on with
  | empty => simp only [bigSep_empty, bigSep_emp_const]
  | insert a s ha ih =>
    rw [bigSep_insert ha, ← ih]
    rw [bigSep_congr (s := Finset.univ) fun (c : Dev nD) _ => bigSep_insert (Φ := Φ c) ha]
    exact bigSep_sep' _ _ _

/-- What is persistent goes to every part. -/
theorem deal {I : Type} [DecidableEq I] {S : Finset I} {P : sProp 𝕄} [BI.Persistent P] {Φ Ψ : I → sProp 𝕄}
    (h : ∀ i ∈ S, iprop(P ∗ Φ i) ⊢ Ψ i) : iprop(P ∗ bigSep S Φ) ⊢ bigSep S Ψ :=
  (sep_mono_left (BI.bigSep_of_persistent S P)).trans (by rw [← bigSep_sep']; exact bigSep_mono h)

/-- A persistent fact that gives every part gives them all. -/
theorem spread {I : Type} [DecidableEq I] (S : Finset I) {P : sProp 𝕄} [BI.Persistent P] {Ψ : I → sProp 𝕄}
    (h : ∀ i ∈ S, P ⊢ Ψ i) : P ⊢ bigSep S Ψ := (BI.bigSep_of_persistent S P).trans (bigSep_mono h)

variable (c : Dev nD)

/-! ## The cells -/

/-- The cells by what they are for: the barrier's, the first twenty hops' send cells, their receive cells, the first
    eight stores'. -/
abbrev CellIx : Type := Unit ⊕ Fin 20 ⊕ Fin 20 ⊕ Fin 8

/-- The number of a cell, from what it is for. -/
def cellIx : CellIx → Fin 49
  | .inl _ => 0
  | .inr (.inl i) => ⟨1 + 5 * (i.val % 4) + i.val / 4, by have := i.isLt; omega⟩
  | .inr (.inr (.inl i)) => ⟨21 + 5 * (i.val % 4) + (i.val / 4 + 1) % 5, by have := i.isLt; omega⟩
  | .inr (.inr (.inr i)) => ⟨41 + 2 * (i.val % 4) + (i.val / 4 + 1) % 2, by have := i.isLt; omega⟩

/-- Each of the 49 cells is for exactly one thing. -/
theorem cellIx_bijective : Function.Bijective cellIx := by decide +kernel

/-- The cells numbered for departures are the send semaphores of the first twenty positions. -/
theorem csem_ix_send : ∀ i : Fin 20, csem (cellIx (.inr (.inl i))) = .dma (sendS (0 + i.val)) := by decide +kernel
/-- The cells numbered for arrivals are the receive semaphores of the first twenty positions. -/
theorem csem_ix_recv : ∀ i : Fin 20, csem (cellIx (.inr (.inr (.inl i)))) = .dma (recvS (0 + i.val)) := by decide +kernel
/-- The cells numbered for stores are the store semaphores of the first eight positions with a store. -/
theorem csem_ix_store : ∀ i : Fin 8, csem (cellIx (.inr (.inr (.inr i)))) = .dma (storeS (60 + i.val)) := by decide +kernel

/-- A fact of every cell of a device. -/
theorem cells_eq (Φ : GSem nD τ sig → sProp 𝕄) :
    bigSep Finset.univ (fun k : Fin 49 => Φ (kcell (c, k)))
      = iprop(Φ (barCell c) ∗ bigSep (Finset.Ico 0 20) (fun q => Φ (sendCell c q)) ∗ bigSep (Finset.Ico 0 20) (fun q => Φ (recvCell c q))
          ∗ bigSep (Finset.Ico 60 68) (fun q => Φ (storeCell c q))) := by
  rw [bigSep_univ_equiv (Equiv.ofBijective cellIx cellIx_bijective), over_sum, over_unit, over_sum, over_sum,
    ← over_fin 0 20 (fun q => Φ (sendCell c q)), ← over_fin 0 20 (fun q => Φ (recvCell c q)), ← over_fin 60 8 (fun q => Φ (storeCell c q))]
  have e1 : ∀ i : Fin 20, Φ (kcell (c, cellIx (.inr (.inl i)))) = Φ (sendCell c (0 + i.val)) := fun i => by
    show Φ ((c : Thread nD τ), csem (cellIx (.inr (.inl i)))) = _; rw [csem_ix_send]
  have e2 : ∀ i : Fin 20, Φ (kcell (c, cellIx (.inr (.inr (.inl i))))) = Φ (recvCell c (0 + i.val)) := fun i => by
    show Φ ((c : Thread nD τ), csem (cellIx (.inr (.inr (.inl i))))) = _; rw [csem_ix_recv]
  have e3 : ∀ i : Fin 8, Φ (kcell (c, cellIx (.inr (.inr (.inr i))))) = Φ (storeCell c (60 + i.val)) := fun i => by
    show Φ ((c : Thread nD τ), csem (cellIx (.inr (.inr (.inr i))))) = _; rw [csem_ix_store]
  rw [← bigSep_congr (s := Finset.univ) fun i _ => e1 i, ← bigSep_congr (s := Finset.univ) fun i _ => e2 i, ← bigSep_congr (s := Finset.univ) fun i _ => e3 i]
  rfl

/-- Cells of different devices or different numbers are different. -/
theorem kcell_injective : Function.Injective (kcell : Dev nD × Fin 49 → GSem nD τ sig) := by
  rintro ⟨c, k⟩ ⟨c', k'⟩ h
  have h1 : c = c' := congrArg (fun g : GSem nD τ sig => g.1.1) h
  have h2 : csem k = csem k' := congrArg Prod.snd h
  have h3 : ∀ k k' : Fin 49, csem k = csem k' → k = k' := by decide +kernel
  rw [h1, h3 k k' h2]

/-- All cells of all devices. -/
def ringCells : Finset (GSem nD τ sig) := Finset.univ.map ⟨kcell, kcell_injective⟩

/-- A fact of all cells is a fact of every device's 49 cells. -/
theorem over_cells (Φ : GSem nD τ sig → sProp 𝕄) :
    bigSep ringCells Φ = bigSep Finset.univ fun c : Dev nD => bigSep Finset.univ fun k : Fin 49 => Φ (kcell (c, k)) := by
  unfold ringCells; rw [bigSep_map, bigSep_univ_prod]; rfl

/-! ## The duty tokens -/

/-- The duties of one device's cells: two of its barrier, 120 departures, 120 arrivals, 64 stores. -/
abbrev TokIx : Type := Bool ⊕ Fin 120 ⊕ Fin 120 ⊕ Fin 64

/-- A device's own cells' duty tokens: its barrier's two, and one for each round of its other cells. -/
def tokOf (x : Dev nD × TokIx) : GSem nD τ sig × ℕ × Bool :=
  match x.2 with
  | .inl b => (barCell x.1, 0, b)
  | .inr (.inl i) => (sendCell x.1 (0 + i.val), (0 + i.val) / 20, false)
  | .inr (.inr (.inl i)) => (recvCell x.1 (0 + i.val), (0 + i.val) / 20, false)
  | .inr (.inr (.inr i)) => (storeCell x.1 (60 + i.val), (60 + i.val - 60) / 8, false)

/-- What a token's round is for. -/
def tokUse : TokIx → Use
  | .inl _ => .bar
  | .inr (.inl i) => .send (0 + i.val)
  | .inr (.inr (.inl i)) => .recv (0 + i.val)
  | .inr (.inr (.inr i)) => .store (60 + i.val)

/-- The round of a token is in use for what the token says. -/
theorem use_tok (j : TokIx) : use (tokOf (c, j)).1.2 (tokOf (c, j)).2.1 = tokUse j := by
  rcases j with b | i | i | i
  · rfl
  · exact use_send _ (by have := i.isLt; omega)
  · exact use_recv _ (by have := i.isLt; omega)
  · exact use_store _ (by omega) (by have := i.isLt; omega)

/-- Different duties have different tokens. -/
theorem tokOf_injective : Function.Injective tokOf := by
  rintro ⟨c, j⟩ ⟨c', j'⟩ h
  have h1 : c = c' := by
    have e : ∀ (c : Dev nD) (j : TokIx), (tokOf (c, j)).1.1.1 = c := fun c j => by rcases j with b | i | i | i <;> rfl
    rw [← e c j, ← e c' j', h]
  have h2 : tokUse j = tokUse j' := by rw [← use_tok c j, ← use_tok c' j', h]
  have h3 : (tokOf (c, j)).2.2 = (tokOf (c', j')).2.2 := by rw [h]
  subst h1
  refine congrArg _ ?_
  rcases j with b | i | i | i <;> rcases j' with b' | i' | i' | i' <;> first
    | exact Use.noConfusion h2
    | exact congrArg Sum.inl h3
    | (have e := Use.send.inj h2; rw [Fin.ext (show i.val = i'.val by omega)])
    | (have e := Use.recv.inj h2; rw [Fin.ext (show i.val = i'.val by omega)])
    | (have e := Use.store.inj h2; rw [Fin.ext (show i.val = i'.val by omega)])

/-- All duty tokens of all devices. -/
def ringToks : Finset (GSem nD τ sig × ℕ × Bool) := Finset.univ.map ⟨tokOf, tokOf_injective⟩

/-- The duty tokens of device `c`'s own cells. -/
def toks : sProp 𝕄 :=
  iprop((dutyTok ER (barCell c) 0 false ∗ dutyTok ER (barCell c) 0 true)
    ∗ bigSep (Finset.Ico 0 120) (fun q => dutyTok ER (sendCell c q) (q / 20) false)
    ∗ bigSep (Finset.Ico 0 120) (fun q => dutyTok ER (recvCell c q) (q / 20) false)
    ∗ bigSep (Finset.Ico 60 124) (storeTok c))

/-- The tokens of the duties that device `c` pays. -/
def payToks : sProp 𝕄 :=
  iprop((dutyTok ER (barCell (dst c 1)) 0 false ∗ dutyTok ER (barCell (dst c 0)) 0 true)
    ∗ bigSep (Finset.Ico 0 120) (sendTok c) ∗ bigSep (Finset.Ico 60 124) (storeTok c))

/-- All the tokens, device by device. -/
theorem over_toks : bigSep ringToks (fun x => (dutyTok ER x.1 x.2.1 x.2.2 : sProp 𝕄)) = bigSep Finset.univ fun c : Dev nD => toks c := by
  unfold ringToks
  rw [bigSep_map, bigSep_univ_prod]
  refine bigSep_congr fun c _ => ?_
  unfold toks storeTok
  rw [over_sum, over_bool, over_sum, over_sum, ← over_fin 0 120 (fun q => dutyTok ER (sendCell c q) (q / 20) false),
    ← over_fin 0 120 (fun q => dutyTok ER (recvCell c q) (q / 20) false), ← over_fin 60 64 (fun q => dutyTok ER (storeCell c q) ((q - 60) / 8) false)]
  rfl

/-- The devices, each moved on along a ring. -/
def along (t : Fin 4) : Dev nD ≃ Dev nD := ⟨fun c => dst c t, fun c => src c t, fun c => src_dst c t, fun c => dst_src c t⟩

/-- A fact of every device is one of every device's neighbour along ring `t`. -/
theorem around (t : Fin 4) (Φ : Dev nD → sProp 𝕄) : bigSep Finset.univ Φ = bigSep Finset.univ fun c => Φ (dst c t) := bigSep_univ_equiv (along t) Φ

/-- The tokens dealt to the devices that pay the duties. -/
theorem toks_around : bigSep Finset.univ (fun c : Dev nD => (toks c : sProp 𝕄)) = bigSep Finset.univ fun c : Dev nD => payToks c := by
  have e : bigSep Finset.univ (fun c : Dev nD => bigSep (Finset.Ico 0 120) fun q => (dutyTok ER (recvCell c q) (q / 20) false : sProp 𝕄))
      = bigSep Finset.univ fun c : Dev nD => bigSep (Finset.Ico 0 120) fun q => dutyTok ER (recvCell (dst c (tq q)) q) (q / 20) false := by
    rw [swap]
    conv_rhs => rw [swap]
    exact bigSep_congr fun q _ => around (tq q) fun c => dutyTok ER (recvCell c q) (q / 20) false
  unfold toks payToks sendTok
  simp only [bigSep_sep']
  rw [around 1 (fun c : Dev nD => (dutyTok ER (barCell c) 0 false : sProp 𝕄)), around 0 (fun c : Dev nD => (dutyTok ER (barCell c) 0 true : sProp 𝕄)), e]
  refine congrArg _ ?_
  exact sep_again _ _ _

/-! ## The credit -/

/-- The credit of everything the others owe device `c`. -/
theorem creds : (Pipeline.launchCred O₀ c : sProp 𝕄) ⊢ iprop(cred (tallyAt (barCell c) 0 2) ∗ bigSep (Finset.Ico 0 120) (recvCred c)) := by
  have eq₀ : (Pipeline.launchCred O₀ c : sProp 𝕄) = iprop((bigSep (Finset.Ico 0 120) (fun q => Pipeline.launchCred (fun d => tallyAt (recvCell (dst d (tq q)) q) (q / 20) N) c)
      ∗ Pipeline.launchCred (fun d => tallyAt (barCell (dst d 0)) 0 1) c) ∗ Pipeline.launchCred (fun d => tallyAt (barCell (dst d 1)) 0 1) c) := by
    rw [← Pipeline.launchCred_sum, ← Pipeline.launchCred_add, ← Pipeline.launchCred_add]
    rfl
  have one (t : Fin 4) : (Pipeline.launchCred (fun d => tallyAt (barCell (dst d t)) 0 1) c : sProp 𝕄) ⊢ cred (tallyAt (barCell c) 0 1) :=
    Pipeline.launchCred_tallyAt (.reg barS) (fun d => dst d t) (fun d => src d t) (fun d => dst_src d t) (fun d => src_dst d t) 0 1 c
  have hop (q : ℕ) : (Pipeline.launchCred (fun d => tallyAt (recvCell (dst d (tq q)) q) (q / 20) N) c : sProp 𝕄) ⊢ recvCred c q :=
    Pipeline.launchCred_tallyAt (.dma (recvS q)) (fun d => dst d (tq q)) (fun d => src d (tq q)) (fun d => dst_src d (tq q)) (fun d => src_dst d (tq q)) (q / 20) N c
  have two : iprop(cred (tallyAt (barCell c) 0 1) ∗ cred (tallyAt (barCell c) 0 1)) ⊢ (cred (tallyAt (barCell c) 0 2) : sProp 𝕄) := by
    rw [show (tallyAt (barCell c) 0 2 : CellTallies nD τ sig ℕ) = tallyAt (barCell c) 0 1 + tallyAt (barCell c) 0 1 from (tallyAt_add (barCell c) 0 1 1).symm]
    exact (cred_add _ _).2
  rw [eq₀]
  iintro ⟨⟨Hs, H0⟩, H1⟩
  isplitl [H0 H1]
  · iapply two
    isplitl [H0]
    · iapply (one 0); iexact H0
    · iapply (one 1); iexact H1
  · iapply (show bigSep (Finset.Ico 0 120) (fun q => Pipeline.launchCred (fun d => tallyAt (recvCell (dst d (tq q)) q) (q / 20) N) c) ⊢ (bigSep (Finset.Ico 0 120) (recvCred c) : sProp 𝕄)
      from bigSep_mono fun q _ => hop q)
    iexact Hs

end Cert.RingProof

end
-- ==== Proof.Alloc.lean ====
/-
The launch's one step for all devices: the cells allocated, the tokens dealt. What a device starts its body with; the
cells closed after it.
-/
module

public import proofs.«01_k».proof.Proof.Cells

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (Y : Dev nD → ℕ → Tile F)
variable (R : (c : Dev nD) → Buf (Elt F) ((oM : Memref sig .tc .hbm S4096x2048 .bf16).view.loc (c : Thread nD τ)))
variable (K : Dev nD × Fin 49 → ℕ)
variable (c : Dev nD)

/-! ## The semaphores -/

/-- The kernel's own semaphores: all but the two that bring the inputs in. -/
abbrev osem (k : Fin 48) : SemLoc sig := .dma (⟨k.val + 2, by have := k.isLt; show _ < 50; omega⟩ : DmaSem sig)

/-- These 48 semaphores are exactly the kernel's own ones. -/
theorem ownSemFacts : Pipeline.OwnSemFacts cfg0.spec osem := by decide +kernel

/-- Cell `k + 1` of a device is the kernel's own semaphore `k`. -/
theorem csem_succ : ∀ k : Fin 48, csem k.succ = osem k := by decide +kernel

/-- They and the barrier semaphore are the cells. -/
theorem sems_eq : iprop(unscopedSems0 c ∗ Pipeline.ownSems0 (Ix := ℕ) (Name := ℕ) (U := UU) (Lvl := ℕ) (Val := Elt F) (τ := τ) osem c)
    = (bigSep Finset.univ fun k : Fin 49 => semVal (kcell (c, k)) 0 : sProp 𝕄) := by
  rw [Fin.univ_succ, Finset.cons_eq_insert, bigSep_insert (by rw [Finset.mem_map]; rintro ⟨k, -, h⟩; exact Fin.succ_ne_zero k h), bigSep_map]
  unfold unscopedSems0 Pipeline.ownSems0
  rw [bigSep_eq_bigSepL_of_eq [SemLoc.reg barS] (by decide +kernel) (by decide +kernel),
    ← bigSep_congr (s := Finset.univ) fun (k : Fin 48) _ => (show (semVal ((c : Thread nD τ), csem k.succ) 0 : sProp 𝕄) = semVal ((c : Thread nD τ), osem k) 0 by rw [csem_succ])]
  rfl

/-! ## The step at launch -/

/-- What the launch element deals device `c`. -/
def G : sProp 𝕄 :=
  iprop((bigSep Finset.univ fun k : Fin 49 => roundState ER (ringRd Y R) (kcell (c, k)) 0)
    ∗ (bigSep Finset.univ fun k : Fin 49 => reached ER (kcell (c, k)) 0)
    ∗ (bigSep Finset.univ fun k : Fin 49 => atPos ER (kcell (c, k)) 0 ∅ 0) ∗ toks c)

/-- Every cell has reached round 0. -/
def started : sProp 𝕄 := bigSep Finset.univ fun ck : Dev nD × Fin 49 => reached ER (kcell ck) 0

/-- That every cell has reached round 0 may be used any number of times. -/
instance started_persistent : BI.Persistent (started (F := F)) := by unfold started; infer_instance

/-- What a device has after the step. -/
def locals : sProp 𝕄 := iprop(started ∗ (bigSep Finset.univ fun k : Fin 49 => atPos ER (kcell (c, k)) 0 ∅ 0) ∗ payToks c)
/-- The same, with the invariants of all devices' cells under some names. -/
def G' : sProp 𝕄 := iprop(∃ K, invs Y R K ∗ locals c)

/-- The element set aside for the rings at launch gives every device its share. -/
theorem fund_ring : BI.own (ER (initOf ringCells ringToks)) ⊢ (|==> bigSep Finset.univ (G Y R) : sProp 𝕄) := by
  iintro HX
  imod (Rounds.fund ER (ringRd Y R) ringCells ringToks) $$ HX with ⟨Hst, Hr, Hat, Htok⟩
  imodintro
  ihave Hst' := (Entails.of_eq (over_cells fun g => roundState ER (ringRd Y R) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hr']; · iexact Hr'
  isplitl [Hat']; · iexact Hat'
  iexact Htok'

/-- A device puts its semaphores at zero and the states of their rounds into one invariant per cell. -/
theorem core_alloc :
    iprop(Pipeline.ownSems0 (Ix := ℕ) (Name := ℕ) (U := UU) (Lvl := ℕ) (Val := Elt F) (τ := τ) osem c ∗ unscopedSems0 c ∗ G Y R c)
      ⊢ |={Set.univ}=> iprop((bigSep Finset.univ fun k : Fin 49 => iprop(∃ κ : ℕ, cellInv ER (ringRd Y R) κ (kcell (c, k))))
          ∗ (bigSep Finset.univ fun k : Fin 49 => reached ER (kcell (c, k)) 0)
          ∗ (bigSep Finset.univ fun k : Fin 49 => atPos ER (kcell (c, k)) 0 ∅ 0) ∗ toks c) := by
  unfold G
  iintro ⟨Hos, Hus, Hst, Hr, Hat, Htok⟩
  ihave Hv := (Entails.of_eq (sems_eq (F := F) c)) $$ [Hos Hus]
  · isplitl [Hus] <;> iassumption
  imod (show iprop((bigSep Finset.univ fun k : Fin 49 => semVal (kcell (c, k)) 0) ∗ bigSep Finset.univ fun k : Fin 49 => roundState ER (ringRd Y R) (kcell (c, k)) 0)
      ⊢ (|={Set.univ}=> bigSep Finset.univ fun k : Fin 49 => iprop(∃ κ : ℕ, cellInv ER (ringRd Y R) κ (kcell (c, k))) : sProp 𝕄) from by
        rw [← bigSep_sep']
        exact (bigSep_mono fun k _ => (Rounds.body_intro ER (ringRd Y R) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- Once every device has its invariants, all of them are known to all devices, and each token goes to the device that
    pays with it. -/
theorem regroup :
    (bigSep Finset.univ fun c : Dev nD => iprop((bigSep Finset.univ fun k : Fin 49 => iprop(∃ κ : ℕ, cellInv ER (ringRd Y R) κ (kcell (c, k))))
          ∗ (bigSep Finset.univ fun k : Fin 49 => reached ER (kcell (c, k)) 0)
          ∗ (bigSep Finset.univ fun k : Fin 49 => atPos ER (kcell (c, k)) 0 ∅ 0) ∗ toks c) : sProp 𝕄)
      ⊢ bigSep Finset.univ (G' Y R) := by
  rw [bigSep_sep', bigSep_sep', bigSep_sep', ← bigSep_univ_prod (fun ck : Dev nD × Fin 49 => iprop(∃ κ : ℕ, cellInv ER (ringRd Y R) κ (kcell ck))),
    ← bigSep_univ_prod (fun ck : Dev nD × Fin 49 => (reached ER (kcell ck) 0 : sProp 𝕄)), toks_around]
  iintro ⟨HI, #HR, Hat, Htok⟩
  ihave HK := (BI.bigSep_exists_pi Finset.univ (fun (ck : Dev nD × Fin 49) (κ : ℕ) => (cellInv ER (ringRd Y R) κ (kcell ck) : sProp 𝕄))) $$ HI
  icases HK with ⟨%K, HI⟩
  ihave HI' : (invs Y R K : sProp 𝕄) $$ [HI]
  · unfold invs; iexact HI
  icases HI' with #HI'
  iapply (deal (P := iprop(invs Y R K ∗ started)) (Φ := fun c : Dev nD => iprop((bigSep Finset.univ fun k : Fin 49 => atPos ER (kcell (c, k)) 0 ∅ 0) ∗ payToks c))
    (show ∀ c ∈ Finset.univ, iprop(iprop(invs Y R K ∗ started) ∗ iprop((bigSep Finset.univ fun k : Fin 49 => atPos ER (kcell (c, k)) 0 ∅ 0) ∗ payToks c)) ⊢ (G' Y R c : sProp 𝕄) from fun c _ => by
      unfold G' locals
      iintro ⟨⟨HI, HR⟩, Hat, Ht⟩
      iexists K
      isplitl [HI]; · iexact HI
      isplitl [HR]; · iexact HR
      isplitl [Hat] <;> iassumption))
  isplitr
  · isplitr; · iexact HI'
    unfold started; iexact HR
  · rw [bigSep_sep']
    isplitl [Hat] <;> iassumption

/-- The step at launch on all devices: from the semaphores at zero and the shares to what each device has after it. -/
theorem glob : (bigSep Finset.univ fun c => iprop(Pipeline.ownSems0 (Ix := ℕ) (Name := ℕ) (U := UU) (Lvl := ℕ) (Val := Elt F) (τ := τ) osem c ∗ unscopedSems0 c ∗ G Y R c) : sProp 𝕄)
    ⊢ |={Set.univ}=> bigSep Finset.univ (G' Y R) :=
  ((bigSep_mono fun c _ => core_alloc Y R c).trans (bigSep_fupd _ _)).trans (BI.fupd_mono (regroup Y R))

/-! ## What the body starts with -/

/-- Every cell of a device has reached round 0. -/
theorem reached_of (c : Dev nD) (sm : SemLoc sig) (h : ∃ k : Fin 49, csem k = sm) : started ⊢ (reached ER ((c : Thread nD τ), sm) 0 : sProp 𝕄) := by
  obtain ⟨k, rfl⟩ := h
  unfold started
  exact bigSep_elim (Finset.mem_univ (c, k))

/-- The first round of each receive cell is reached. -/
theorem recvOk_of (q : ℕ) (h : q < 20) : started ⊢ (recvOk c q : sProp 𝕄) := by
  unfold recvOk; rw [show q / 20 = 0 by omega]; exact reached_of c _ (csem_recv q)
/-- The first round of each send cell is reached. -/
theorem sendOk_of (q : ℕ) (h : q < 20) : started ⊢ (sendOk c q : sProp 𝕄) := by
  unfold sendOk; rw [show q / 20 = 0 by omega]; exact reached_of c _ (csem_send q)
/-- The first round of each store cell is reached. -/
theorem storeOk_of (q : ℕ) (h0 : 60 ≤ q) (h : q < 68) : started ⊢ (storeOk c q : sProp 𝕄) := by
  unfold storeOk; rw [show (q - 60) / 8 = 0 by omega]; exact reached_of c _ (csem_store q)

/-- To stand at round 0 of a receive cell is to stand at its first position. -/
theorem recvPos_of (q : ℕ) (h : q < 20) : (atPos ER (recvCell c q) 0 ∅ 0 : sProp 𝕄) = recvPos c q := by unfold recvPos; rw [show q / 20 = 0 by omega]
/-- To stand at round 0 of a send cell is to stand at its first position. -/
theorem sendPos_of (q : ℕ) (h : q < 20) : (atPos ER (sendCell c q) 0 ∅ 0 : sProp 𝕄) = sendPos c q := by unfold sendPos; rw [show q / 20 = 0 by omega]
/-- To stand at round 0 of a store cell is to stand at its first position. -/
theorem storePos_of (q : ℕ) (h0 : 60 ≤ q) (h : q < 68) : (atPos ER (storeCell c q) 0 ∅ 0 : sProp 𝕄) = storePos c q := by unfold storePos; rw [show (q - 60) / 8 = 0 by omega]

/-- Where a device stands at its 49 cells, by what the cells are for. -/
theorem positions : (bigSep Finset.univ fun k : Fin 49 => atPos ER (kcell (c, k)) 0 ∅ 0)
    = (iprop(atPos ER (barCell c) 0 ∅ 0 ∗ bigSep (Finset.Ico 0 20) (sendPos c) ∗ bigSep (Finset.Ico 0 20) (recvPos c) ∗ bigSep (Finset.Ico 60 68) (storePos c)) : sProp 𝕄) := by
  rw [cells_eq c (fun g => atPos ER g 0 ∅ 0), bigSep_congr fun q hq => sendPos_of c q (Finset.mem_Ico.mp hq).2, bigSep_congr fun q hq => recvPos_of c q (Finset.mem_Ico.mp hq).2,
    bigSep_congr fun q hq => storePos_of c q (Finset.mem_Ico.mp hq).1 (Finset.mem_Ico.mp hq).2]

/-- The buffers of the body: the working copy of `w`, the receive and the staging buffer. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The stores to come. -/
theorem stores_begin (f : Buf (Elt F) ((c : Thread nD τ).loc main_v1)) :
    iprop(started ∗ bigSep (Finset.Ico 60 124) (storeTok c) ∗ ((c : Thread nD τ).loc main_v1 ↦{fullShare} f)
        ∗ bigSep (Finset.Ico 60 68) (fun q => iprop(∃ X : Tile F, stageAt c (tq q) (gs (q / 4)) X)) ∗ bigSep (Finset.Ico 60 68) (storePos c))
      ⊢ (stores R c 60 : sProp 𝕄) := by
  unfold stores
  rw [out_split c f]
  iintro ⟨#HR, Ht, Ho, Hg, Hp⟩
  isplitl [Ht Ho]
  · rw [bigSep_sep']
    isplitl [Ht]; · iexact Ht
    iapply (show bigSep (Finset.Ico 60 124) (fun q => tileAt c q f) ⊢ (bigSep (Finset.Ico 60 124) (fun q => iprop(∃ f, tileAt c q f)) : sProp 𝕄)
      from bigSep_mono fun q _ => exists_intro (PROP := sProp 𝕄) (Φ := fun f => tileAt c q f) f)
    iexact Ho
  isplitl [Hg]
  · rw [bigSep_sep']
    isplitr
    · iapply (show started ⊢ (bigSep (Finset.Ico 60 68) (storeOk c) : sProp 𝕄)
        from spread _ fun q hq => storeOk_of c q (Finset.mem_Ico.mp hq).1 (Finset.mem_Ico.mp hq).2)
      iexact HR
    · iexact Hg
  isplitr
  · rw [show Finset.Ico (max 60 (60 - 8)) 60 = ∅ from rfl, bigSep_empty]; iempintro
  isplitl [Hp]; · iexact Hp
  rw [show Finset.Ico 60 (60 - 8) = ∅ from rfl, bigSep_empty]; iempintro

/-- The twenty slots: sixteen for the neighbours, four of the device's own. -/
theorem spots_split : bigSep (Finset.Ico 0 20) (spot (F := F) c) = (iprop(bigSep (Finset.Ico 0 16) (spot c) ∗ bigSep (Finset.Ico 16 20) (spot c)) : sProp 𝕄) := by
  rw [show Finset.Ico 0 20 = Finset.Ico 0 16 ∪ Finset.Ico 16 20 from (Finset.Ico_union_Ico_eq_Ico (by decide) (by decide)).symm,
    bigSep_union (Finset.Ico_disjoint_Ico_consecutive 0 16 20)]
  rfl

/-- From the launch to the body. -/
theorem begins_of (f : Buf (Elt F) ((c : Thread nD τ).loc main_v1)) :
    iprop(locals c ∗ (cred (tallyAt (barCell c) 0 2) ∗ bigSep (Finset.Ico 0 120) (recvCred c))
        ∗ ((c : Thread nD τ).loc main_v1 ↦{fullShare} f) ∗ scratch c ∗ (∃ W, owes (c : Thread nD τ) (O₀ c) W))
      ⊢ (begins R c : sProp 𝕄) := by
  unfold locals scratch payToks
  rw [positions]
  iintro ⟨⟨#HR, ⟨HaB, HaS, HaV, HaT⟩, ⟨⟨HtB, HtB'⟩, HtS, HtT⟩⟩, ⟨HcB, HcV⟩, Ho, ⟨Hk, Hc, Hg⟩, HO⟩
  ihave Hc := (comm_begin (F := F) c) $$ Hc
  ihave Hc := (Entails.of_eq (spots_split (F := F) c)) $$ Hc
  ihave Hg := (stage_begin (F := F) c) $$ Hg
  icases Hc with ⟨Hc, Hc'⟩
  unfold begins ready
  isplitl [Hk]; · unfold kPts; iexact Hk
  isplitl [HO HtB HtB' HcB HaB]
  · isplitl [HO]; · iexact HO
    isplitl [HtB]; · iexact HtB
    isplitl [HtB']; · iexact HtB'
    isplitr; · iapply (reached_of (dst c 1) (.reg barS) ⟨0, csem_bar⟩); iexact HR
    isplitr; · iapply (reached_of (dst c 0) (.reg barS) ⟨0, csem_bar⟩); iexact HR
    isplitl [HcB] <;> iassumption
  isplitl [Hc]
  · unfold avail
    rw [bigSep_sep']
    isplitl [Hc]; · iexact Hc
    iapply (show started ⊢ (bigSep (Finset.Ico 0 16) (recvOk c) : sProp 𝕄) from spread _ fun q hq => recvOk_of c q (by have := (Finset.mem_Ico.mp hq).2; omega))
    iexact HR
  isplitl [Hc']; · iexact Hc'
  isplitr
  · iapply (show started ⊢ (bigSep (Finset.Ico 16 20) (recvOk c) : sProp 𝕄) from spread _ fun q hq => recvOk_of c q (Finset.mem_Ico.mp hq).2)
    iexact HR
  isplitl [HcV]; · iexact HcV
  isplitl [HaV]; · iexact HaV
  isplitl [HtS]; · iexact HtS
  isplitr
  · iapply (show started ⊢ (bigSep (Finset.Ico 0 20) (sendOk c) : sProp 𝕄) from spread _ fun q hq => sendOk_of c q (Finset.mem_Ico.mp hq).2)
    iexact HR
  isplitl [HaS]; · iexact HaS
  iapply (stores_begin R c f)
  isplitr; · iexact HR
  isplitl [HtT]; · iexact HtT
  isplitl [Ho]; · iexact Ho
  isplitl [Hg] <;> iassumption

/-! ## After the body -/

/-- A cell with no further round in use gives its semaphore back, at zero. -/
theorem close_one (sm : SemLoc sig) (h : ∃ k : Fin 49, csem k = sm) (r : ℕ) (hl : ∀ r', r ≤ r' → use sm r' = .idle) :
    iprop(invs Y R K ∗ atPos ER ((c : Thread nD τ), sm) r ∅ 0) ⊢ (iprop(|={Set.univ}=> semVal ((c : Thread nD τ), sm) 0) : sProp 𝕄) := by
  iintro ⟨HI, Hat⟩
  ihave HI := (inv_of Y R K c sm h) $$ HI
  icases HI with ⟨%κ, HI⟩
  iapply (Rounds.cell_close ER (ringRd Y R) (Set.mem_univ κ) (fun h => h) (R := r) (fun r' hr => duties_idle Y R ((c : Thread nD τ), sm) r' (hl r' hr)))
  isplitl [HI] <;> iassumption

/-- The barrier has one round only. -/
theorem use_bar_late (r : ℕ) (h : 1 ≤ r) : use (.reg barS) r = .idle := if_neg (by omega)

/-- After the last hop a receive semaphore is at zero. -/
theorem close_recv (i : ℕ) : iprop(invs Y R K ∗ recvPos c (120 + i)) ⊢ (iprop(|={Set.univ}=> semVal (recvCell c (0 + i)) 0) : sProp 𝕄) := by
  have e : recvCell c (0 + i) = recvCell c (120 + i) := by
    rw [show 120 + i = 0 + i + 20 + 20 + 20 + 20 + 20 + 20 by omega]; simp only [recvCell_add]
  rw [e]
  unfold recvPos
  exact close_one Y R K c _ (csem_recv _) _ fun r hr => use_recv_late _ _ (by omega)
/-- After the last hop a send semaphore is at zero. -/
theorem close_send (i : ℕ) : iprop(invs Y R K ∗ sendPos c (120 + i)) ⊢ (iprop(|={Set.univ}=> semVal (sendCell c (0 + i)) 0) : sProp 𝕄) := by
  have e : sendCell c (0 + i) = sendCell c (120 + i) := by
    rw [show 120 + i = 0 + i + 20 + 20 + 20 + 20 + 20 + 20 by omega]; simp only [sendCell_add]
  rw [e]
  unfold sendPos
  exact close_one Y R K c _ (csem_send _) _ fun r hr => use_send_late _ _ (by omega)
/-- After the last store a store semaphore is at zero. -/
theorem close_store (i : ℕ) : iprop(invs Y R K ∗ storePos c (124 + i)) ⊢ (iprop(|={Set.univ}=> semVal (storeCell c (60 + i)) 0) : sProp 𝕄) := by
  have e : storeCell c (60 + i) = storeCell c (124 + i) := by
    rw [show 124 + i = 60 + i + 8 + 8 + 8 + 8 + 8 + 8 + 8 + 8 by omega]; simp only [storeCell_add]
  rw [e]
  unfold storePos
  exact close_one Y R K c _ (csem_store _) _ fun r hr => use_late _ _ (by omega)

/-- Positions closed together. -/
theorem close_all (a b n : ℕ) (P V : ℕ → sProp 𝕄) (h : ∀ i, iprop(invs Y R K ∗ P (a + i)) ⊢ iprop(|={Set.univ}=> V (b + i))) :
    iprop(invs Y R K ∗ bigSep (Finset.Ico a (a + n)) P) ⊢ iprop(|={Set.univ}=> bigSep (Finset.Ico b (b + n)) V) := by
  rw [← over_fin, ← over_fin]
  exact (deal fun i _ => h i.val).trans (bigSep_fupd _ _)

/-- All the cells closed. -/
theorem closing : iprop(invs Y R K ∗ atPos ER (barCell c) 1 ∅ 0 ∗ bigSep (Finset.Ico 120 140) (recvPos c) ∗ bigSep (Finset.Ico 120 140) (sendPos c)
      ∗ bigSep (Finset.Ico 124 132) (storePos c))
    ⊢ (iprop(|={Set.univ}=> bigSep Finset.univ fun k : Fin 49 => semVal (kcell (c, k)) 0) : sProp 𝕄) := by
  rw [cells_eq c fun g => semVal g 0]
  iintro ⟨#HI, Hb, Hr, Hs, Ht⟩
  imod (close_one Y R K c (.reg barS) ⟨0, csem_bar⟩ 1 use_bar_late) $$ [Hb] with Hb
  · isplitr; · iexact HI
    iexact Hb
  imod (close_all Y R K 120 0 20 (recvPos c) (fun q => semVal (recvCell c q) 0) (close_recv Y R K c)) $$ [Hr] with Hr
  · isplitr; · iexact HI
    iexact Hr
  imod (close_all Y R K 120 0 20 (sendPos c) (fun q => semVal (sendCell c q) 0) (close_send Y R K c)) $$ [Hs] with Hs
  · isplitr; · iexact HI
    iexact Hs
  imod (close_all Y R K 124 60 8 (storePos c) (fun q => semVal (storeCell c q) 0) (close_store Y R K c)) $$ [Ht] with Ht
  · isplitr; · iexact HI
    iexact Ht
  imodintro
  isplitl [Hb]; · iexact Hb
  isplitl [Hs]; · iexact Hs
  isplitl [Hr]; · iexact Hr
  iexact Ht

end Cert.RingProof

end
-- ==== Proof.Launch.lean ====
/-
The launch: what the pipeline holds around the body, the body's obligation, and the run of the whole program.
-/
module

public import proofs.«01_k».proof.Proof.Alloc
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Pipeline.CollectiveSegs

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- Device `c`'s block of `x`, as brought in. -/
def xstg (c : Dev nD) : (cc0_stg0_0 : Ref sig .tc).ty.Contents (Elt F) := (win0_0.blk (0 : Fin 1)).view.read (Elt F) ((s₀ m ρ).mem ((c : Thread nD τ).loc main_arg0))
/-- Device `c`'s block of `w`, as brought in. -/
def wstg (c : Dev nD) : (cc0_stg1_0 : Ref sig .tc).ty.Contents (Elt F) := (win0_1.blk (0 : Fin 1)).view.read (Elt F) ((s₀ m ρ).mem ((c : Thread nD τ).loc main_arg1))

variable (Y : Dev nD → ℕ → Tile F)
variable (R : (c : Dev nD) → Buf (Elt F) ((oM : Memref sig .tc .hbm S4096x2048 .bf16).view.loc (c : Thread nD τ)))

/-- What device `c` starts from. -/
def start (c : Dev nD) : sProp 𝕄 :=
  iprop(G' Y R c ∗ (cred (tallyAt (barCell c) 0 2) ∗ bigSep (Finset.Ico 0 120) (recvCred c)) ∗ levAts L lv
    ∗ ∃ f : Buf (Elt F) ((c : Thread nD τ).loc main_v1), ((c : Thread nD τ).loc main_v1) ↦{fullShare} f)

/-- Before the body: what the device starts from, and its buffers. -/
def Φ₀ (c : Dev nD) : sProp 𝕄 := iprop(start Y R c ∗ scratch c)
/-- After the body: the result, every semaphore at zero, the buffers. -/
def Φ₁ (c : Dev nD) : sProp 𝕄 :=
  iprop((((c : Thread nD τ).loc main_v1) ↦{fullShare} R c) ∗ (bigSep Finset.univ fun k : Fin 49 => semVal (kcell (c, k)) 0) ∗ scratch c)

/-- What the launch needs to know of a device: the contents of the inputs, and what holds and what is owed before and
    after the body. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
  Φ t := match t with
    | ⟨0, _⟩ => Φ₀ Y R c
    | ⟨_ + 1, _⟩ => Φ₁ R c
  q _ := fullShare
  owed t := match t with
    | ⟨0, _⟩ => O₀ c
    | ⟨_ + 1, _⟩ => 0

/-- To own a whole buffer at the contents `X` is to hold a staging buffer at `X`. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body may use: what the device starts from, what it owes, and its two input buffers. -/
def bodyPre (c : Dev nD) : sProp 𝕄 :=
  iprop(Φ₀ Y R c ∗ (dats m ρ Y R 0 c).owesAt 0 t0_0.castSucc
    ∗ (∃ d, stg c cc0_stg0_0 ((dats m ρ Y R 0 c).before (0 : Fin 2) t0_0 d))
    ∗ (∃ d, stg c cc0_stg1_0 ((dats m ρ Y R 0 c).before (1 : Fin 2) t0_0 d)))

/-- What the body must leave: the result, nothing owed, and its two input buffers as they were. -/
def bodyPost (c : Dev nD) : sProp 𝕄 :=
  iprop(Φ₁ R c ∗ (dats m ρ Y R 0 c).owesAt 0 t0_0.succ ∗ stg c cc0_stg0_0 (xstg m ρ c) ∗ stg c cc0_stg1_0 (wstg m ρ c))

/-- What the body leaves is what the pipeline takes back. -/
theorem body_exit (c : Dev nD) (K : Dev nD × Fin 49 → ℕ) :
    iprop(invs Y R K ∗ (xPts (xstg m ρ) c ∗ wPts (wstg m ρ) c ∗ kPts c (k0_pay1 (wstg m ρ c)) ∗ atPos ER (barCell c) 1 ∅ 0 ∗ ends R c))
      ⊢ (iprop(|={Set.univ}=> bodyPost m ρ Y R c) : sProp 𝕄) := by
  unfold ends debt bodyPost Φ₁ scratch xPts wPts kPts Dat.owesAt Pipeline.owesWithin
  rw [sends_end c 120 le_rfl, show (dats m ρ Y R 0 c).owed t0_0.succ = 0 from rfl, ← out_split c (R c)]
  iintro ⟨#HI, Hx, Hw, Hk, Hb, ⟨⟨%W, HO⟩, Hr, Hs, Ht, Hc, Hg, Ho⟩⟩
  imod (closing Y R K c) $$ [Hb Hr Hs Ht] with Hz
  · isplitr; · iexact HI
    isplitl [Hb]; · iexact Hb
    isplitl [Hr]; · iexact Hr
    isplitl [Hs] <;> iassumption
  imodintro
  isplitl [Ho Hz Hk Hc Hg]
  · isplitl [Ho]; · iexact Ho
    isplitl [Hz]; · iexact Hz
    isplitl [Hk]; · iexists _; iexact Hk
    isplitl [Hc]; · iapply (comm_end (F := F) c); iexact Hc
    iapply (stage_end (F := F) c); iexact Hg
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hw

/-- An update at the end of a program is taken with it. -/
theorem take_update {α : Type} (c : Dev nD) (p : Prog (TpuEff nD τ sig (Elt F) Λ₀ .tc) α) (Q : sProp 𝕄) :
    WP c p (fun _ => iprop(|={Set.univ}=> Q)) ⊢ WP c p (fun _ => Q) := by
  unfold WP
  exact wp_fupd _ _ _ p (fun _ => Q)

variable (hF : Fits Y R (xstg m ρ) (wstg m ρ))

include hF in
/-- The body, started from what it may use, leaves what it must. -/
theorem sound_body (c : Dev nD) :
    bodyPre m ρ Y R c ⊢ WP c (ringBody xM wM oM (Memref.isWhole_whole _) kM (Memref.isWhole_whole _) cM (Memref.isWhole_whole _) gM (Memref.isWhole_whole _) cc0_scratch3 cc0_scratch4 cc0_scratch5)
      (fun _ => iprop(|={Set.univ}=> bodyPost m ρ Y R c)) := by
  unfold bodyPre Φ₀ start G'
  iintro ⟨⟨⟨⟨%K, #HI, Hl⟩, Hcr, #Hlev, ⟨%f, Hv⟩⟩, Hsc⟩, Ho, ⟨%d0, %g0, %hg0, Hx⟩, ⟨%d1, %g1, %hg1, Hw⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  unfold Dat.owesAt Pipeline.owesWithin
  icases Ho with ⟨%W, %hW, HO⟩
  rw [show (dats m ρ Y R 0 c).owed t0_0.castSucc = O₀ c from rfl]
  iapply (wp_body Y R K (xstg m ρ) (wstg m ρ) c hF (fun _ => iprop(|={Set.univ}=> bodyPost m ρ Y R c))) $$ [Hl Hcr Hv Hsc HO Hx Hw]
  · isplitr; · iexact HI
    isplitr; · iexact Hlev
    isplitl [Hx]; · unfold xPts; iexact Hx
    isplitl [Hw]; · unfold wPts; iexact Hw
    iapply (begins_of R c f)
    isplitl [Hl]; · iexact Hl
    isplitl [Hcr]; · iexact Hcr
    isplitl [Hv]; · iexact Hv
    isplitl [Hsc]; · iexact Hsc
    iexists W; iexact HO
  iintro H
  iapply (body_exit m ρ Y R c K)
  isplitr; · iexact HI
  iexact H

include hF in
/-- The body does what the launch asks of it: from its two input buffers and what holds before, to what holds after. -/
theorem body_obligation (c : Dev nD) : BodyObligation (dats (F := F) m ρ Y R 0 c) (defs₀ (F := F)) 𝒱₀ 0 Set.univ := fun t => by
  rw [fin_N0 t]
  rw [bigSep_W0, bigSep_W0]
  simp only [owns_whole_eq]
  change bodyPre m ρ Y R c ⊢ _
  have h1 : (defs₀ (F := F)) Proc.tc 0 (t0_0, cfg0.slots t0_0) = bodyAt0 (F := F) t0_0 := rfl
  have h2 : (bodyAt0 (F := F) t0_0) = cc0_body xM (Memref.isWhole_whole _) wM (Memref.isWhole_whole _) oM (Memref.isWhole_whole _) kM (Memref.isWhole_whole _) cM (Memref.isWhole_whole _) gM (Memref.isWhole_whole _) cc0_scratch3 cc0_scratch4 cc0_scratch5 := rfl
  rw [h1, h2]
  have hΦ : (dats m ρ Y R 0 c).Φ t0_0.succ = Φ₁ R c := rfl
  have ha : (dats m ρ Y R 0 c).after 0 t0_0 = xstg m ρ c := rfl
  have hb : (dats m ρ Y R 0 c).after 1 t0_0 = wstg m ρ c := rfl
  rw [hΦ, ha, hb]
  rw [body_eq]
  iintro H
  iapply (take_update c _ (bodyPost m ρ Y R c))
  iapply (sound_body m ρ Y R hF c)
  iexact H

/-! ## The launch theorem's conditions -/

/-- The inputs are held whole. -/
theorem share_eq (c : Dev nD) (w : Fin cfg0.W) : (dats m ρ Y R 0 c).share w = fullShare := by unfold Dat.share; split <;> rfl

/-- The element set aside at launch: the input copies' part and the rings' part. -/
def u₀ : UU := (initOf (Pipeline.cells cfgs cellOf_inj) (Pipeline.launchToks cfgs cellOf_inj), initOf ringCells ringToks)

/-- What the launch gives a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' Y R c)
      ⊢ |={Set.univ}=> iprop(start Y R c ∗ emp) := by
  rw [Pipeline.unscopedRestP_none, unscopedRest0_eq]
  iintro ⟨Hv, Hlev, Hcr, -, HG⟩
  ihave Hc := (creds (F := F) c) $$ Hcr
  imodintro
  unfold start
  isplitl
  · isplitl [HG]; · iexact HG
    isplitl [Hc]; · iexact Hc
    isplitl [Hlev]; · iexact Hlev
    iexists _; iexact Hv
  · iempintro

/-- With its buffers added, that is what holds before the body. -/
theorem phi0_intro (c : Dev nD) :
    iprop(start Y R c ∗ Pipeline.prefHeld Pipeline.Prefetch.none c (fun _ => fullShare.right) (fun k => k.elim0) ∗ Pipeline.scopedRest cfg0.spec c)
      ⊢ (dats m ρ Y R 0 c).Φ 0 := by
  rw [show (dats m ρ Y R 0 c).Φ 0 = Φ₀ Y R c from rfl, scopedRest0_eq]
  unfold Φ₀ scratch
  iintro ⟨Hs, -, Hr⟩
  isplitl [Hs] <;> iassumption

/-- What holds after the body gives back every semaphore at zero, the buffers, and the result. -/
theorem phi1_exit (c : Dev nD) :
    (dats m ρ Y R 0 c).Φ (Fin.last cfg0.N)
      ⊢ iprop(iprop(unscopedSems0 c ∗ (((c : Thread nD τ).loc main_v1) ↦{fullShare} R c)) ∗ Pipeline.ownSems0 osem c ∗ Pipeline.scopedRest cfg0.spec c) := by
  rw [show (dats m ρ Y R 0 c).Φ (Fin.last cfg0.N) = Φ₁ R c from rfl, scopedRest0_eq]
  unfold Φ₁ scratch
  rw [← sems_eq]
  iintro ⟨Hv, ⟨Hb, Ho⟩, Hr⟩
  isplitl [Hv Hb]
  · isplitl [Hb] <;> iassumption
  isplitl [Ho] <;> iassumption

/-- The waits for the input copies are allowed, whatever the device owes. -/
theorem waits (c : Dev nD) : (levAts L lv : sProp 𝕄) ⊢ Pipeline.cellsWaits cfgs (dats m ρ Y R) 0 0 c :=
  Pipeline.cellsWaits_intro cfgs (dats m ρ Y R) 0 0 c fun w s t => by
    rcases t with ⟨_ | _, ht⟩
    · exact mayWait_all c _ (by fin_cases w <;> fin_cases s <;> rfl)
    · show (levAts L lv : sProp 𝕄) ⊢ MayWait _ _ _ 0
      rw [MayWait_zero]
      iintro H
      iempintro

/-! ## The run -/

/-- At the end the counters outside the kernel are zero and the result buffer holds the result. -/
theorem v1_read (c : Dev nD) (s' : Phys nD τ sig (Elt F)) :
    iprop(iprop(unscopedSems0 c ∗ (((c : Thread nD τ).loc main_v1) ↦{fullShare} R c)) ∗ emp ∗ SI s')
      ⊢ (iprop(|={Set.univ}=> (⌜(∀ sm : SemLoc sig, sm.isScoped .tc = false → s'.mem.sem ((c.tc : Thread nD τ), sm) = 0) ∧ s'.mem.mem ((c : Thread nD τ).loc main_v1) = R c⌝ ∗ SI s')) : sProp 𝕄) := by
  iintro ⟨⟨Hu, Hv⟩, -, HSI⟩
  icombine HSI Hv gives %h
  have hu : iprop(unscopedSems0 c ∗ SI s')
      ⊢ (iprop(|={Set.univ}=> (⌜∀ sm : SemLoc sig, sm.isScoped .tc = false → s'.mem.sem ((c.tc : Thread nD τ), sm) = 0⌝ ∗ SI s')) : sProp 𝕄) :=
    Pipeline.unscopedSems0_read (X := unscopedSems0 c) (c := c) fupd_intro s'
  imod hu $$ [Hu HSI] with ⟨%hs, HSI⟩
  · isplitl [Hu] <;> iassumption
  imodintro
  isplitr
  · ipureintro; exact ⟨hs, funext fun i => h i (Finset.mem_univ i)⟩
  · iexact HSI

include hF in
set_option maxRecDepth 100000 in
/-- For any float values, from any memory with zero counters: the program ends under every weakly fair schedule, and
    then each device's result is `R c`, its blocks of `x` and `w` are what they were, and every counter is zero. -/
theorem run_fits : θ_run defs (onTc (τ := τ) (main (F := F))) (s₀ m ρ)
    (fun r => (∀ c : Dev nD, r.2.mem ((c : Thread nD τ).loc main_v1) = R c ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ Y R) 0 cellOf_inj (0 : Fin 1)
    winFacts0.to₀ ownSemFacts (Pipeline.PreFacts.none _) EP defs₀ 𝒱₀ m ρ main
    (hmain := fun _ => rfl)
    (hbody := body_obligation m ρ Y R hF) (hne := fun w => by fin_cases w <;> exact Nat.succ_pos _) (harr := arr_whole0) (hstage := stage_whole0) (hshare := share_eq m ρ Y R)
    (hdistinct := winFacts0.arr_inj)
    (O₀ := O₀) (howed₀ := fun _ => rfl) (howedN := fun _ => rfl)
    (L := L) (lv := lv) (hL := L_of_ne) (hwaits := waits m ρ Y R)
    (G := G Y R) (G' := G' Y R) (u₀ := u₀)
    (hu₀ := by
      unfold u₀
      iintro Hu
      ihave H := (ownU_pair _ _) $$ Hu
      icases H with ⟨HP, HX⟩
      imod (fund_ring Y R) $$ HX with HG
      imodintro
      isplitl [HP] <;> iassumption)
    (hglob := glob Y R)
    (hA := fun _ _ => rfl) (hpf := fun _ k => k.elim0)
    (X := start Y R) (Y := fun c => iprop(unscopedSems0 c ∗ (((c : Thread nD τ).loc main_v1) ↦{fullShare} R c))) (Z := fun _ => iprop(emp))
    (hX := start_intro m ρ Y R) (hin := phi0_intro m ρ Y R) (hout := phi1_exit m ρ Y R)
    (QY := fun c s => (∀ sm : SemLoc sig, sm.isScoped .tc = false → s.sem ((c.tc : Thread nD τ), sm) = 0) ∧ s.mem ((c : Thread nD τ).loc main_v1) = R c)
    (hY := v1_read R)
    (hQ := fun _ h hs => ⟨fun c => ⟨(h c).2.2.2, ((h c).1 (0 : Fin 2)).trans ((dats (F := F) m ρ Y R 0 c).arrAt_in (0 : Fin 2) rfl _),
      ((h c).1 (1 : Fin 2)).trans ((dats (F := F) m ρ Y R 0 c).arrAt_in (1 : Fin 2) rfl _)⟩, sem_eq_zero hs fun c => (h c).2.2.1⟩)

end Cert.RingProof

end
-- ==== Proof.Values.lean ====
/-
The values the rings carry, for any float values, and the run of the whole program with them.
-/
module

public import proofs.«01_k».proof.Proof.Launch

@[expose] public section

set_option maxRecDepth 16384

noncomputable section

namespace Cert.RingProof

open Cert.KernelIdeal Cert.KernelIdeal.Gen
open Idealize.ShloMosaic Idealize.ShloMosaic.TcCoe
open Idealize.SL.Sem
open Idealize.ShloMosaic.ValueIdx

variable {F : FTy → Type} [FloatOps F]

section Values
variable (fx : Dev nD → (cc0_stg0_0 : Ref sig .tc).ty.Contents (Elt F)) (fw : Dev nD → (cc0_stg1_0 : Ref sig .tc).ty.Contents (Elt F))

/-- A received tile, widened, plus the row half of device `c`'s product of iteration `h`. -/
def added (t : Fin 4) (h : ℕ) (c : Dev nD) (y : Tile F) : FVec F S128x1024 .f32 :=
  addf (extf .f32 y bitsLt_bf16_f32) (half (sub t) (prodAt fx fw c h (decide (t.val % 2 = 1))))

/-- The tile ring `t` holds on device `c` at iteration `h`: first a rounded product; up to iteration 15 the tile received
    with the product added, rounded (at iteration 15 with the maximum with zero before); from then on the tile received. -/
def ring (t : Fin 4) : ℕ → Dev nD → Tile F
  | 0, c => truncf .bf16 (half (sub t) (prodAt fx fw c 0 (decide (t.val % 2 = 1)))) bitsLt_bf16_f32
  | h + 1, c =>
    if h + 1 ≤ 14 then truncf .bf16 (added fx fw t (h + 1) c (ring t h (src c t))) bitsLt_bf16_f32
    else if h + 1 ≤ 15 then
      truncf .bf16 (maximumf (added fx fw t (h + 1) c (ring t h (src c t))) (broadcast S128x1024 (Scalar.ofBits .f32 0x00000000#32 : F .f32))) bitsLt_bf16_f32
    else ring t h (src c t)

/-- The tile of position `q` on device `c`. -/
def tileOf (c : Dev nD) (q : ℕ) : Tile F := ring fx fw (tq q) (q / 4) c

/-- The result on device `c`: each element from the tile that is stored over it. -/
def resultOf (c : Dev nD) : Buf (Elt F) ((oM : Memref sig .tc .hbm S4096x2048 .bf16).view.loc (c : Thread nD τ)) :=
  fun i : S4096x2048.Idx => tileOf fx fw c (posOf c i) (ix2 ⟨(i 0).val % 128, Nat.mod_lt _ (by decide)⟩ ⟨(i 1).val % 1024, Nat.mod_lt _ (by decide)⟩)

/-- A ring is odd where the position is. -/
theorem odd_eq (q : ℕ) : decide ((tq q).val % 2 = 1) = decide (q % 2 = 1) := by
  have : (tq q).val % 2 = q % 2 := by show q % 4 % 2 = q % 2; omega
  rw [this]

/-- Positions four apart are on the same ring. -/
theorem tq_back (p : ℕ) (h4 : 4 ≤ p) : tq (p - 4) = tq p := Fin.ext (by show (p - 4) % 4 = p % 4; omega)

/-- Adding a product to a tile, in the shape of a slot, is adding it to the tile. -/
theorem plus_unsq (i : Fin 2) (p : FVec F S256x1024 .f32) (X : Tile F) :
    plus i p (unsq X) = addf (extf .f32 X bitsLt_bf16_f32) (half i p) := by
  unfold plus unsq
  rw [cast_unsq]

/-- Each tile from the one received: with the product added, with the maximum with zero too, or unchanged. -/
theorem tileOf_next (c : Dev nD) (p : ℕ) (h4 : 4 ≤ p) :
    tileOf fx fw c p = if p / 4 ≤ 14 then truncf .bf16 (added fx fw (tq p) (p / 4) c (tileOf fx fw (src c (tq p)) (p - 4))) bitsLt_bf16_f32
      else if p / 4 ≤ 15 then
        truncf .bf16 (maximumf (added fx fw (tq p) (p / 4) c (tileOf fx fw (src c (tq p)) (p - 4))) (broadcast S128x1024 (Scalar.ofBits .f32 0x00000000#32 : F .f32))) bitsLt_bf16_f32
      else tileOf fx fw (src c (tq p)) (p - 4) := by
  have e : p / 4 = (p - 4) / 4 + 1 := by omega
  unfold tileOf
  rw [tq_back p h4, e, ring]

/-- These values are the ones the body keeps to. -/
theorem fits : Fits (tileOf fx fw) (resultOf fx fw) fx fw where
  start c q hq := by
    have e : q / 4 = 0 := by omega
    unfold first prodOf tileOf unsq
    rw [e, if_pos (by decide), ring, cast_tile, odd_eq]
  sum c p h4 h15 := by
    rw [tileOf_next fx fw c p h4]
    unfold prodOf
    rw [if_pos h15, ← odd_eq]
    by_cases h14 : p / 4 ≤ 14
    · rw [if_pos h14, if_pos h14]
      unfold accum
      rw [plus_unsq, cast_tile]; rfl
    · rw [if_neg h14, if_neg h14, if_pos h15]
      unfold accumRelu
      rw [plus_unsq, cast_tile]; rfl
  pass c p h15 := by
    rw [tileOf_next fx fw c p (by omega), if_neg (by omega), if_neg h15]
  out c p h0 hp := by
    funext j
    show tileOf fx fw c (posOf c ((outM oM c (p / 4) (tq p)).view.emb j)) (ix2 _ _) = _
    obtain ⟨e0, e1⟩ := out_emb c p h0 hp j
    have j0 : (j 0).val < 128 := (j 0).isLt
    have j1 : (j 1).val < 1024 := (j 1).isLt
    rw [posOf_tile c p h0 hp j]
    refine congrArg _ ?_
    funext a
    fin_cases a
    · exact Fin.ext (by show (((outM oM c (p / 4) (tq p)).view.emb j : S4096x2048.Idx) 0).val % 128 = _; rw [e0]; show _ = (j 0).val; omega)
    · exact Fin.ext (by show (((outM oM c (p / 4) (tq p)).view.emb j : S4096x2048.Idx) 1).val % 1024 = _; rw [e1]; show _ = (j 1).val; omega)

end Values

variable (m : (ℓ : Loc nD τ sig) → Buf (Elt F) ℓ) (ρ : Dev nD → PrngReg)

/-- For any float values, from any memory with zero counters: the program ends under every weakly fair schedule, and
    then each device's result is the one its rings stored, its blocks of `x` and `w` are what they were, and every
    counter is zero. -/
theorem run_main : θ_run defs (onTc (τ := τ) (main (F := F))) (s₀ m ρ)
    (fun r => (∀ c : Dev nD, r.2.mem ((c : Thread nD τ).loc main_v1) = resultOf (xstg m ρ) (wstg m ρ) c ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  run_fits m ρ _ _ (fits _ _)

end Cert.RingProof

end
-- ==== Proof.Sums.lean ====
/-
The values at the ideal instance: floats are extended reals, sums may be regrouped, a change of format changes nothing.
Each ring adds up one product of every device, so every result is the whole product's maximum with zero.
-/
module

public import proofs.«01_k».proof.Proof.Values
public import Idealize.ShloMosaic.Lib.MatmulPlain

@[expose] public section

set_option maxRecDepth 16384

noncomputable section

namespace Cert.RingProof

open Cert.KernelIdeal Cert.KernelIdeal.Gen
open Idealize.ShloMosaic Idealize.ShloMosaic.TcCoe
open Idealize.SL.Sem
open Idealize.ShloMosaic.ValueIdx

/-! ## The rows a ring works on -/

/-- The block of rows of `x` a device multiplies at iteration `h`. -/
theorem x_off : ∀ (c : Dev nD) (h : Fin 16) (t : Fin 4),
    xOff c h.val (decide (t.val % 2 = 1)) = ![256 * chunk c t h.val, 0] := by decide +kernel

/-- On the even rings, tiles come from the place before. -/
theorem rk_src_even : ∀ (c : Dev nD) (t : Fin 4), t.val % 2 = 0 → rk (src c t) = (rk c + 15) % 16 := by decide +kernel
/-- On the odd rings, tiles come from the place after. -/
theorem rk_src_odd : ∀ (c : Dev nD) (t : Fin 4), ¬ t.val % 2 = 0 → rk (src c t) = (rk c + 1) % 16 := by decide +kernel

/-- A tile travels with its block of rows: the sender's at one iteration is the receiver's at the next. -/
theorem chunk_src (c : Dev nD) (t : Fin 4) (h : ℕ) (hh : h ≤ 30) : chunk (src c t) t h = chunk c t (h + 1) := by
  have := rk_lt c
  unfold chunk
  by_cases ht : t.val % 2 = 0
  · rw [if_pos ht, if_pos ht, rk_src_even c t ht]; omega
  · rw [if_neg ht, if_neg ht, rk_src_odd c t ht]; omega

/-- The device `d` hops back along ring `t`. -/
def upstream (t : Fin 4) : ℕ → Dev nD → Dev nD
  | 0, c => c
  | d + 1, c => upstream t d (src c t)

/-- The devices 0 to 15 hops back are all the devices, each once. -/
theorem upstream_all : ∀ (t : Fin 4) (c : Dev nD), Function.Bijective fun d : Fin 16 => upstream t d.val c := by decide +kernel

/-! ## The sums -/

section Sums
variable (fx : Dev nD → (cc0_stg0_0 : Ref sig .tc).ty.Contents (Elt Ideal)) (fw : Dev nD → (cc0_stg1_0 : Ref sig .tc).ty.Contents (Elt Ideal))

/-- The element of `x` on device `c` at a row and a column (zero outside). -/
def xAt (c : Dev nD) (r k : ℕ) : EReal := if h : r < 4096 ∧ k < 256 then (fx c : S4096x256.Idx → EReal) (ix2 ⟨r, h.1⟩ ⟨k, h.2⟩) else 0
/-- The element of `w` on device `c` at a row and a column (zero outside). -/
def wAt (c : Dev nD) (k n : ℕ) : EReal := if h : k < 256 ∧ n < 2048 then (fw c : S256x2048.Idx → EReal) (ix2 ⟨k, h.1⟩ ⟨n, h.2⟩) else 0

/-- Device `c`'s part of the product at row `r`, column `n`. -/
def part (c : Dev nD) (r n : ℕ) : EReal := ∑ k : Fin 256, xAt fx c r k.val * wAt fw c k.val n

/-- The working copy of `w` is `w`. -/
theorem pay_self (f : (cc0_stg1_0 : Ref sig .tc).ty.Contents (Elt Ideal)) : k0_pay1 f = f := by
  unfold k0_pay1
  simp only [shapeCast_self]

/-- An element of a product is the sum over 256 positions. -/
theorem prod_apply (x : Vec Ideal S256x256 .bf16) (w : Vec Ideal S256x1024 .bf16) (i : Fin 256) (j : Fin 1024) :
    (prod x w : S256x1024.Idx → EReal) (ix2 i j) = ∑ k : Fin 256, (x : S256x256.Idx → EReal) (ix2 i k) * (w : S256x1024.Idx → EReal) (ix2 k j) := by
  unfold prod
  rw [shapeCast_self]
  refine (Ideal.matmul_plain_apply (M := 256) (K := 256) (N := 1024) none x w (constant S256x1024 .f32 0x00000000#32) i j).trans ?_
  show Ideal.ofBits .f32 0x00000000#32 + _ = _
  rw [Ideal.ofBits_zero_f32, zero_add]

/-- An element of the block of `x` that a device multiplies at iteration `h`. -/
theorem x_read (c : Dev nD) (h : ℕ) (hh : h ≤ 15) (t : Fin 4) (i k : Fin 256) :
    ((xM : Memref sig .tc .vmem S4096x256 .bf16).view.readAt (Elt Ideal) (xR c h (decide (t.val % 2 = 1))).toLoadRect (fx c) : S256x256.Idx → EReal) (ix2 i k)
      = xAt fx c (256 * chunk c t h + i.val) k.val := by
  have e := x_off c ⟨h, by omega⟩ t
  have hc := chunk_lt c t h
  unfold xAt
  rw [dif_pos ⟨by have := i.isLt; omega, k.isLt⟩]
  refine congrArg (fx c : S4096x256.Idx → EReal) ?_
  funext a
  fin_cases a
  · refine Fin.ext ?_
    show xOff c h (decide (t.val % 2 = 1)) 0 + 1 * i.val = 256 * chunk c t h + i.val
    rw [show xOff c h (decide (t.val % 2 = 1)) = _ from e]
    show 256 * chunk c t h + 1 * i.val = _
    omega
  · refine Fin.ext ?_
    show xOff c h (decide (t.val % 2 = 1)) 1 + 1 * k.val = k.val
    rw [show xOff c h (decide (t.val % 2 = 1)) = _ from e]
    show 0 + 1 * k.val = _
    omega

/-- An element of the left half of the columns of `w`. -/
theorem w_read0 (c : Dev nD) (k : Fin 256) (j : Fin 1024) :
    ((kM : Memref sig .tc .vmem S256x2048 .bf16).view.readAt (Elt Ideal) wR0.toLoadRect (fw c) : S256x1024.Idx → EReal) (ix2 k j) = wAt fw c k.val j.val := by
  unfold wAt
  rw [dif_pos ⟨k.isLt, by have := j.isLt; omega⟩]
  refine congrArg (fw c : S256x2048.Idx → EReal) ?_
  funext a
  fin_cases a
  · exact Fin.ext (by show 0 + 1 * k.val = k.val; omega)
  · exact Fin.ext (by show 0 + 1 * j.val = j.val; omega)

/-- An element of the right half of the columns of `w`. -/
theorem w_read1 (c : Dev nD) (k : Fin 256) (j : Fin 1024) :
    ((kM : Memref sig .tc .vmem S256x2048 .bf16).view.readAt (Elt Ideal) wR1.toLoadRect (fw c) : S256x1024.Idx → EReal) (ix2 k j) = wAt fw c k.val (1024 + j.val) := by
  unfold wAt
  rw [dif_pos ⟨k.isLt, by have := j.isLt; omega⟩]
  refine congrArg (fw c : S256x2048.Idx → EReal) ?_
  funext a
  fin_cases a
  · exact Fin.ext (by show 0 + 1 * k.val = k.val; omega)
  · exact Fin.ext (by show 1024 + 1 * j.val = 1024 + j.val; omega)

/-- A product's element is the device's part of the whole one. -/
theorem prodAt_apply (c : Dev nD) (h : ℕ) (hh : h ≤ 15) (t : Fin 4) (i : Fin 256) (j : Fin 1024) :
    (prodAt fx fw c h (decide (t.val % 2 = 1)) : S256x1024.Idx → EReal) (ix2 i j) = part fx fw c (256 * chunk c t h + i.val) (1024 * (t.val % 2) + j.val) := by
  unfold prodAt part
  rw [prod_apply]
  refine Finset.sum_congr rfl fun k _ => ?_
  rw [x_read fx c h hh t i k, pay_self]
  refine congrArg _ ?_
  by_cases ht : t.val % 2 = 1
  · rw [decide_eq_true ht, cond_true, w_read1, ht]
  · rw [decide_eq_false ht, cond_false, w_read0, show t.val % 2 = 0 by omega, Nat.mul_zero, Nat.zero_add]

/-- The row of the result that an element of ring `t`'s tile belongs to at iteration `h`. -/
def row (c : Dev nD) (t : Fin 4) (h : ℕ) (j : S128x1024.Idx) : ℕ := 256 * chunk c t h + 128 * (t.val / 2) + (j 0).val
/-- The column of the result that an element of ring `t`'s tile belongs to. -/
def col (t : Fin 4) (j : S128x1024.Idx) : ℕ := 1024 * (t.val % 2) + (j 1).val

/-- An element of the row half that a device adds is its part of the product at that row and column. -/
theorem half_apply (c : Dev nD) (h : ℕ) (hh : h ≤ 15) (t : Fin 4) (j : S128x1024.Idx) :
    (half (sub t) (prodAt fx fw c h (decide (t.val % 2 = 1))) : S128x1024.Idx → EReal) j = part fx fw c (row c t h j) (col t j) := by
  have j0 : (j 0).val < 128 := (j 0).isLt
  have ht : t.val / 2 < 2 := by have := t.isLt; omega
  have e := prodAt_apply fx fw c h hh t ⟨128 * (t.val / 2) + (j 0).val, by omega⟩ (j 1)
  unfold row col
  rw [show 256 * chunk c t h + 128 * (t.val / 2) + (j 0).val = 256 * chunk c t h + (128 * (t.val / 2) + (j 0).val) by omega]
  refine Eq.trans ?_ e
  refine congrArg (prodAt fx fw c h (decide (t.val % 2 = 1)) : S256x1024.Idx → EReal) ?_
  funext a
  fin_cases a
  · exact Fin.ext rfl
  · exact Fin.ext (by show 0 + (j 1).val = (j 1).val; omega)

/-- An element keeps its row of the result as its tile travels. -/
theorem row_src (c : Dev nD) (t : Fin 4) (h : ℕ) (hh : h ≤ 30) (j : S128x1024.Idx) : row (src c t) t h j = row c t (h + 1) j := by
  unfold row; rw [chunk_src c t h hh]

/-- Up to iteration 14 a tile holds the parts of the devices it has passed. -/
theorem ring_sum (t : Fin 4) : ∀ (h : ℕ) (c : Dev nD) (j : S128x1024.Idx), h ≤ 14 →
    (ring fx fw t h c : S128x1024.Idx → EReal) j = ∑ d ∈ Finset.range (h + 1), part fx fw (upstream t d c) (row c t h j) (col t j) := by
  intro h
  induction h with
  | zero =>
    intro c j _
    rw [Finset.sum_range_one]
    exact half_apply fx fw c 0 (by omega) t j
  | succ h ih =>
    intro c j hh
    rw [ring, if_pos hh, Finset.sum_range_succ']
    show (ring fx fw t h (src c t) : S128x1024.Idx → EReal) j + (half (sub t) (prodAt fx fw c (h + 1) (decide (t.val % 2 = 1))) : S128x1024.Idx → EReal) j = _
    rw [ih (src c t) j (by omega), half_apply fx fw c (h + 1) (by omega) t j, row_src c t h (by omega) j]
    rfl

/-- The whole product's maximum with zero. -/
def whole (r n : ℕ) : EReal := max (∑ c : Dev nD, part fx fw c r n) 0

/-- From iteration 15 on a tile holds the finished result. -/
theorem ring_done (t : Fin 4) : ∀ (h : ℕ) (c : Dev nD) (j : S128x1024.Idx), 15 ≤ h → h ≤ 30 →
    (ring fx fw t h c : S128x1024.Idx → EReal) j = whole fx fw (row c t h j) (col t j) := by
  intro h
  induction h with
  | zero => intro c j h15; omega
  | succ h ih =>
    intro c j h15 h30
    rw [ring, if_neg (by omega)]
    by_cases h0 : h + 1 ≤ 15
    · have e : h = 14 := by omega
      subst e
      rw [if_pos h0]
      show max ((ring fx fw t 14 (src c t) : S128x1024.Idx → EReal) j + (half (sub t) (prodAt fx fw c 15 (decide (t.val % 2 = 1))) : S128x1024.Idx → EReal) j) (Ideal.ofBits .f32 0x00000000#32) = _
      rw [Ideal.ofBits_zero_f32, ring_sum fx fw t 14 (src c t) j (by omega), half_apply fx fw c 15 (by omega) t j, row_src c t 14 (by omega) j]
      unfold whole
      refine congrArg (fun s => max s (0 : EReal)) ?_
      refine (Finset.sum_range_succ' (fun d => part fx fw (upstream t d c) (row c t 15 j) (col t j)) 15).symm.trans ?_
      rw [← Fin.sum_univ_eq_sum_range (fun d => part fx fw (upstream t d c) (row c t 15 j) (col t j)) 16]
      exact Fintype.sum_bijective (fun d : Fin 16 => upstream t d.val c) (upstream_all t c) _ _ fun _ => rfl
    · rw [if_neg h0, ih (src c t) j (by omega) (by omega), row_src c t h (by omega) j]

/-- Every device's result is the whole product's maximum with zero. -/
theorem result_apply (c : Dev nD) (i : S4096x2048.Idx) :
    (resultOf fx fw c : S4096x2048.Idx → EReal) i = whole fx fw (i 0).val (i 1).val := by
  obtain ⟨q, hq⟩ : ∃ q, posOf c i = q := ⟨_, rfl⟩
  obtain ⟨h0, h1⟩ := posOf_range c i
  rw [hq] at h0 h1
  obtain ⟨j, -, e⟩ := Finset.mem_map.mp ((out_mem c q h0 h1 i).mpr hq)
  clear hq
  subst e
  obtain ⟨e0, e1⟩ := out_emb c q h0 h1 j
  rw [e0, e1]
  refine (congrFun ((fits fx fw).out c q h0 h1) j).trans ?_
  exact ring_done fx fw (tq q) (q / 4) c j (by omega) (by omega)

end Sums

end Cert.RingProof

end
-- ==== Proof.Match.lean ====
/-
The reference's value, and why the kernel's result is it: the sum over the contracted axis is the sum over the devices
of the sums over their blocks.
-/
module

public import proofs.«01_k».proof.Proof.Sums
public import proofs.«01_k».proof.Proof.Gen.ReferenceIdeal.Run
public import Idealize.ShloMosaic.Lib.Layout

@[expose] public section

set_option maxRecDepth 16384

noncomputable section

namespace Cert.RingProof

open Cert.KernelIdeal Cert.KernelIdeal.Gen
open Idealize.ShloMosaic Idealize.ShloMosaic.TcCoe
open Idealize.SL.Sem
open Idealize.ShloMosaic.ValueIdx

/-! ## The blocks brought in -/

/-- The one block of each window is the whole array. -/
theorem xstg_eq {F : FTy → Type} [FloatOps F] (m : (ℓ : Loc nD τ sig) → Buf (Elt F) ℓ) (ρ : Dev nD → PrngReg) (c : Dev nD) :
    xstg m ρ c = m ((c : Thread nD τ).loc main_arg0) := Memref.read_access_unit_zero (Elt F) main_arg0 (funext fun a => by fin_cases a <;> rfl) _ (m ((c : Thread nD τ).loc main_arg0))
/-- The block of `w` brought in is the device's second argument. -/
theorem wstg_eq {F : FTy → Type} [FloatOps F] (m : (ℓ : Loc nD τ sig) → Buf (Elt F) ℓ) (ρ : Dev nD → PrngReg) (c : Dev nD) :
    wstg m ρ c = m ((c : Thread nD τ).loc main_arg1) := Memref.read_access_unit_zero (Elt F) main_arg1 (funext fun a => by fin_cases a <;> rfl) _ (m ((c : Thread nD τ).loc main_arg1))

/-! ## The reference's value -/

/-- What the reference computes from the whole `x` and the whole `w`. -/
def refOut (X : FVec Ideal ⟨2, ![4096, 4096]⟩ .bf16) (W : FVec Ideal ⟨2, ![4096, 2048]⟩ .bf16) : FVec Ideal ⟨2, ![4096, 2048]⟩ .bf16 :=
  truncf .bf16 (maximumf (extf .f32 (truncf .bf16 (Host.dotGeneral Cert.ReferenceIdeal.dot_S4096x4096_S4096x2048_S4096x2048_1_0_0_1_n_n none X W) Cert.ReferenceIdeal.Facts₀.bitsLt_bf16_f32) Cert.ReferenceIdeal.Facts₀.bitsLt_bf16_f32)
    (broadcastInDim Cert.ReferenceIdeal.S4096x2048 ![] Cert.ReferenceIdeal.Facts₀.bcast_S_S4096x2048 (constant Cert.ReferenceIdeal.S_ .f32 0x00000000#32))) Cert.ReferenceIdeal.Facts₀.bitsLt_bf16_f32

/-- At a row and a column: the maximum with zero of the row's product with the column. -/
theorem refOut_apply (X : FVec Ideal ⟨2, ![4096, 4096]⟩ .bf16) (W : FVec Ideal ⟨2, ![4096, 2048]⟩ .bf16) (r : Fin 4096) (n : Fin 2048) :
    (refOut X W : (⟨2, ![4096, 2048]⟩ : Shape).Idx → EReal) (ix2 r n) = max (∑ k : Fin 4096, X (ix2 r k) * W (ix2 k n)) 0 := by
  have e := Ideal.matmul_plain_apply (M := 4096) (K := 4096) (N := 2048) none X W (fun _ => (0 : EReal)) r n
  rw [zero_add] at e
  show max ((Host.dotGeneral Cert.ReferenceIdeal.dot_S4096x4096_S4096x2048_S4096x2048_1_0_0_1_n_n none X W : (⟨2, ![4096, 2048]⟩ : Shape).Idx → EReal) (ix2 r n)) (Ideal.ofBits .f32 0x00000000#32) = _
  rw [Ideal.ofBits_zero_f32]
  exact congrArg (fun s => max s (0 : EReal)) e

/-- A position along the contracted axis: a device and a position in its block. -/
def cut : Fin 16 × Fin 256 ≃ Fin 4096 := finProdFinEquiv.trans (finCongr (by norm_num))

/-- Position `k` of device `c`'s part is position `k + 256 c` of the whole. -/
theorem cut_val (c : Fin 16) (k : Fin 256) : (cut (c, k)).val = k.val + 256 * c.val := rfl

/-- Blocks of the whole `x` and `w` give the whole product. -/
theorem whole_blocks (X : FVec Ideal ⟨2, ![4096, 4096]⟩ .bf16) (W : FVec Ideal ⟨2, ![4096, 2048]⟩ .bf16)
    (fx : Dev nD → (cc0_stg0_0 : Ref sig .tc).ty.Contents (Elt Ideal)) (fw : Dev nD → (cc0_stg1_0 : Ref sig .tc).ty.Contents (Elt Ideal))
    (hx : ∀ c, fx c = Layout.block ⟨2, ![4096, 256]⟩ ⟨2, ![4096, 4096]⟩ 1 16 c X)
    (hw : ∀ c, fw c = Layout.block ⟨2, ![256, 2048]⟩ ⟨2, ![4096, 2048]⟩ 0 16 c W) (r : Fin 4096) (n : Fin 2048) :
    whole fx fw r.val n.val = max (∑ k : Fin 4096, X (ix2 r k) * W (ix2 k n)) 0 := by
  unfold whole part
  refine congrArg (fun s => max s (0 : EReal)) ?_
  rw [← Equiv.sum_comp cut, Fintype.sum_prod_type]
  refine Finset.sum_congr rfl fun c _ => Finset.sum_congr rfl fun k _ => ?_
  unfold xAt wAt
  rw [dif_pos ⟨r.isLt, k.isLt⟩, dif_pos ⟨k.isLt, n.isLt⟩, hx c, hw c]
  have ex : (Layout.block ⟨2, ![4096, 256]⟩ ⟨2, ![4096, 4096]⟩ 1 16 c X : S4096x256.Idx → EReal) (ix2 r k) = X (ix2 r (cut (c, k))) := by
    refine congrArg X ?_
    funext a
    fin_cases a
    · exact Fin.ext rfl
    · exact Fin.ext (by show c.val * 256 + k.val = k.val + 256 * c.val; omega)
  have ew : (Layout.block ⟨2, ![256, 2048]⟩ ⟨2, ![4096, 2048]⟩ 0 16 c W : S256x2048.Idx → EReal) (ix2 k n) = W (ix2 (cut (c, k)) n) := by
    refine congrArg W ?_
    funext a
    fin_cases a
    · exact Fin.ext (by show c.val * 256 + k.val = k.val + 256 * c.val; omega)
    · exact Fin.ext rfl
  exact congrArg₂ (fun a b : EReal => a * b) ex ew

/-- From blocks of the whole `x` and `w`, every device's result is the reference's value. -/
theorem result_eq (X : FVec Ideal ⟨2, ![4096, 4096]⟩ .bf16) (W : FVec Ideal ⟨2, ![4096, 2048]⟩ .bf16)
    (fx : Dev nD → (cc0_stg0_0 : Ref sig .tc).ty.Contents (Elt Ideal)) (fw : Dev nD → (cc0_stg1_0 : Ref sig .tc).ty.Contents (Elt Ideal))
    (hx : ∀ c, fx c = Layout.block ⟨2, ![4096, 256]⟩ ⟨2, ![4096, 4096]⟩ 1 16 c X)
    (hw : ∀ c, fw c = Layout.block ⟨2, ![256, 2048]⟩ ⟨2, ![4096, 2048]⟩ 0 16 c W) (c : Dev nD) :
    (resultOf fx fw c : S4096x2048.Idx → EReal) = refOut X W := by
  have h : ∀ i : S4096x2048.Idx, (resultOf fx fw c : S4096x2048.Idx → EReal) i = refOut X W i := fun i => by
    have ei : i = ix2 (i 0) (i 1) := by funext a; fin_cases a <;> rfl
    rw [result_apply]
    refine Eq.trans ?_ (congrArg (refOut X W) ei).symm
    exact (whole_blocks X W fx fw hx hw (i 0) (i 1)).trans (refOut_apply X W (i 0) (i 1)).symm
  exact funext h

end Cert.RingProof

end
-- ==== Proof.lean ====
/-
The proof of the certificate's claim: the programs' runs end with their arguments unchanged and every counter at zero,
and on the extended reals the kernel's result on every device is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Match
public import Idealize.ShloMosaic.Adequacy
public import Idealize.ShloMosaic.Init

@[expose] public section

noncomputable section

namespace Cert.Proof

open Idealize.ShloMosaic Idealize.ShloMosaic.TcCoe Idealize.SL.Sem

/-- The kernel, on bits: it ends, its arguments as they were, every counter at zero. -/
theorem frame_kernel : Cert.quiescent_Kernel := by
  intro m ρ _
  have h : θ_run (Cert.KernelIdeal.defs (F := Bits)) (onTc (τ := Cert.KernelIdeal.τ) (Cert.KernelIdeal.main (F := Bits))) (Cert.RingProof.s₀ m ρ)
      (fun r => (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
        ∧ r.2.sem = fun _ => 0) :=
    (θ_run Cert.KernelIdeal.defs _ _).mono (fun _ h => ⟨fun c => (h.1 c).2, h.2⟩) (Cert.RingProof.run_main (F := Bits) m ρ)
  have e : Cert.Kernel.defs (F := Bits) = Cert.KernelIdeal.defs (F := Bits) := by sl_kernel_rfl
  have e' : Cert.Kernel.main (F := Bits) = Cert.KernelIdeal.main (F := Bits) := by sl_kernel_rfl
  rw [e, e']
  exact h

/-- The kernel, on extended reals: the same. -/
theorem frame_ideal : Cert.quiescent_KernelIdeal := fun m ρ _ =>
  (θ_run Cert.KernelIdeal.defs _ _).mono (fun _ h => ⟨fun c => (h.1 c).2, h.2⟩) (Cert.RingProof.run_main (F := Ideal) m ρ)

/-- The reference: it ends, its arguments as they were; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From blocks of the whole `x` and `w`, the kernel's result on every device is the reference's. -/
theorem same_value : Cert.algebraic_KernelIdeal_ReferenceIdeal := by
  intro m ρ m' ρ' _ hb
  refine ⟨Cert.RingProof.refOut (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)), ?_, ?_⟩
  · refine (θ_run Cert.KernelIdeal.defs _ _).mono (fun r h c => ⟨(h.1 c).1.trans ?_, (h.1 c).2⟩) (Cert.RingProof.run_main (F := Ideal) m ρ)
    exact Cert.RingProof.result_eq _ _ _ _ (fun c => (Cert.RingProof.xstg_eq m ρ c).trans (hb c).1)
      (fun c => (Cert.RingProof.wstg_eq m ρ c).trans (hb c).2) c
  · exact (θ_run Cert.ReferenceIdeal.defs _ _).mono (fun r h => h 0) (Cert.ReferenceIdeal.Value.run (F := Ideal) m' ρ')

/-- All the claims: the three programs' facts, the three runs, nothing rewritten, and the value. -/
theorem claim : Cert.Claim := ⟨Cert.Kernel.Gen.facts, Cert.KernelIdeal.Gen.facts, Cert.ReferenceIdeal.Gen.facts,
  frame_kernel, frame_ideal, frame_reference, trivial, same_value⟩

end Cert.Proof

end
